-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_mask_finite_factors [hPre_zero_mask_finite_factors : Cert.Pre_zero_mask_finite_factors.Facts] (m : (ℓ : Loc Cert.KernelIdeal.nD Cert.KernelIdeal.τ Cert.KernelIdeal.sig) → Buf (Elt Ideal) ℓ) : Prop :=
  ∀ c : Dev Cert.KernelIdeal.nD,
    (Cert.Pre_zero_mask_finite_factors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_mask_finite_factors [hPre_zero_mask_finite_factors : Cert.Pre_zero_mask_finite_factors.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_mask_finite_factors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_zero_mask_finite_factors [hKernelIdeal : Cert.KernelIdeal.Facts] [hPre_zero_mask_finite_factors : Cert.Pre_zero_mask_finite_factors.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_mask_finite_factors m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_zero_mask_finite_factors [hReferenceIdeal : Cert.ReferenceIdeal.Facts] [hPre_zero_mask_finite_factors : Cert.Pre_zero_mask_finite_factors.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_mask_finite_factors m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "qscale" .f32 0x3E0293EE#32 (((Real.sqrt 128)⁻¹ * (Real.log 2)⁻¹ : ℝ) : EReal)

def algebraic_KernelIdeal_ReferenceIdeal_pre_zero_mask_finite_factors [hKernelIdeal : Cert.KernelIdeal.Facts] [hReferenceIdeal : Cert.ReferenceIdeal.Facts] [hPre_zero_mask_finite_factors : Cert.Pre_zero_mask_finite_factors.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_mask_finite_factors m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_zero_mask_finite_factors : Cert.Pre_zero_mask_finite_factors.Facts),
    quiescent_Kernel (hKernel := hKernel)
    ∧ quiescent_KernelIdeal (hKernelIdeal := hKernelIdeal)
    ∧ quiescent_KernelIdeal_pre_zero_mask_finite_factors (hKernelIdeal := hKernelIdeal) (hPre_zero_mask_finite_factors := hPre_zero_mask_finite_factors)
    ∧ quiescent_ReferenceIdeal (hReferenceIdeal := hReferenceIdeal)
    ∧ quiescent_ReferenceIdeal_pre_zero_mask_finite_factors (hReferenceIdeal := hReferenceIdeal) (hPre_zero_mask_finite_factors := hPre_zero_mask_finite_factors)
    ∧ preserves_Kernel_KernelIdeal
    ∧ algebraic_KernelIdeal_ReferenceIdeal_pre_zero_mask_finite_factors (hKernelIdeal := hKernelIdeal) (hReferenceIdeal := hReferenceIdeal) (hPre_zero_mask_finite_factors := hPre_zero_mask_finite_factors)
-- ==== Pre_zero_mask_finite_factors.lean ====
abbrev S1x2048x4096 : Shape := ⟨3, ![1, 2048, 4096]⟩
abbrev S1x2048x128 : Shape := ⟨3, ![1, 2048, 128]⟩
abbrev S1x1x2048x2048 : Shape := ⟨4, ![1, 1, 2048, 2048]⟩
abbrev S4096x4096 : Shape := ⟨2, ![4096, 4096]⟩
abbrev S1024x4096 : Shape := ⟨2, ![1024, 4096]⟩
abbrev S_ : Shape := ⟨0, ![]⟩

class Facts : Prop where
  bcast_S_S1x2048x4096 : S_.BroadcastsInDim S1x2048x4096 (![] : Fin 0 → Fin S1x2048x4096.rank)
  reducesTo_S1x2048x4096_S_d0_1_2 : S1x2048x4096.ReducesTo [0, 1, 2] S_
  h_S_ : 0 < S_.numel
  bcast_S_S1x2048x128 : S_.BroadcastsInDim S1x2048x128 (![] : Fin 0 → Fin S1x2048x128.rank)
  reducesTo_S1x2048x128_S_d0_1_2 : S1x2048x128.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_

variable [Facts]

def fn_part1 {F : FTy → Type} [FloatOps F] (main_arg3 : FVec F S1x1x2048x2048 .f32) (main_arg5 : FVec F S1024x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S1024x4096 .f32 := Host.absf main_arg5
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_cst_8 : FVec F S_ .f32 := constant S_ .f32 0x00000000#32
  let main_v24 : FVec F S1x1x2048x2048 .f32 := broadcastInDim S1x1x2048x2048 ![] bcast_S_S1x1x2048x2048 main_cst_8
  let main_v25 : IVec S1x1x2048x2048 1 := cmpf .oeq main_arg3 main_v24
  let main_c_9 : IVec S_ 1 := constantI S_ 1 1#1
  let main_v26 : IVec S_ 1 := (fun x v => Host.reduce IntOp.andi x v reducesTo_S1x1x2048x2048_S_d0_1_2_3 h_S_) main_v25 main_c_9
  let main_v27 : IVec S_ 1 := andi main_v23 main_v26
  main_v27

def fn {F : FTy → Type} [FloatOps F] (main_arg0 : FVec F S1x2048x4096 .f32) (main_arg1 : FVec F S1x2048x128 .f32) (main_arg2 : FVec F S1x2048x128 .f32) (main_arg3 : FVec F S1x1x2048x2048 .f32) (main_arg4 : FVec F S4096x4096 .f32) (main_arg5 : FVec F S1024x4096 .f32) (main_arg6 : FVec F S1024x4096 .f32) (main_arg7 : FVec F S4096x4096 .f32) : IVec S_ 1 :=
  let main_v0 : FVec F S1x2048x4096 .f32 := Host.absf main_arg0
  let main_cst : FVec F S_ .f32 := constant S_ .f32 0x7F800000#32
  let main_v1 : FVec F S1x2048x4096 .f32 := broadcastInDim S1x2048x4096 ![] bcast_S_S1x2048x4096 main_cst
  let main_v2 : IVec S1x2048x4096 1 := cmpf .olt main_v0 main_v1
  let main_c : IVec S_ 1 := constantI S_ 1 1#1
  let main_v3 : IVec S_ 1 := (fun x v => Host.reduce IntOp.andi x v reducesTo_S1x2048x4096_S_d0_1_2 h_S_) main_v2 main_c
  let main_v4 : FVec F S1x2048x128 .f32 := Host.absf main_arg1
  let main_cst_0 : FVec F S_ .f32 := constant S_ .f32 0x7F800000#32
  let main_v5 : FVec F S1x2048x128 .f32 := broadcastInDim S1x2048x128 ![] bcast_S_S1x2048x128 main_cst_0
  let main_v6 : IVec S1x2048x128 1 := cmpf .olt main_v4 main_v5
  let main_c_1 : IVec S_ 1 := constantI S_ 1 1#1
  let main_v7 : IVec S_ 1 := (fun x v => Host.reduce IntOp.andi x v reducesTo_S1x2048x128_S_d0_1_2 h_S_) main_v6 main_c_1
  let main_v8 : IVec S_ 1 := andi main_v3 main_v7
  let main_v9 : FVec F S1x2048x128 .f32 := Host.absf main_arg2
  let main_cst_2 : FVec F S_ .f32 := constant S_ .f32 0x7F800000#32
  let main_v10 : FVec F S1x2048x128 .f32 := broadcastInDim S1x2048x128 ![] bcast_S_S1x2048x128 main_cst_2
  let main_v11 : IVec S1x2048x128 1 := cmpf .olt main_v9 main_v10
  let main_c_3 : IVec S_ 1 := constantI S_ 1 1#1
  let main_v12 : IVec S_ 1 := (fun x v => Host.reduce IntOp.andi x v reducesTo_S1x2048x128_S_d0_1_2 h_S_) main_v11 main_c_3
  let main_v13 : IVec S_ 1 := andi main_v8 main_v12
  let main_v14 : FVec F S4096x4096 .f32 := Host.absf main_arg4
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg3 main_arg5 main_v13 main_v16
-- ==== Kernel.lean ====
abbrev S1x2048x4096 : Shape := ⟨3, ![1, 2048, 4096]⟩
abbrev S1x2048x128 : Shape := ⟨3, ![1, 2048, 128]⟩
abbrev S1x1x2048x2048 : Shape := ⟨4, ![1, 1, 2048, 2048]⟩
abbrev S4096x4096 : Shape := ⟨2, ![4096, 4096]⟩
abbrev S1024x4096 : Shape := ⟨2, ![1024, 4096]⟩
abbrev S2048x4096 : Shape := ⟨2, ![2048, 4096]⟩
abbrev S6144x4096 : Shape := ⟨2, ![6144, 4096]⟩
abbrev S2048x128 : Shape := ⟨2, ![2048, 128]⟩
abbrev S2048x6144 : Shape := ⟨2, ![2048, 6144]⟩
abbrev S1024x128 : Shape := ⟨2, ![1024, 128]⟩
abbrev S1024x1024 : Shape := ⟨2, ![1024, 1024]⟩
abbrev S1024x64 : Shape := ⟨2, ![1024, 64]⟩
abbrev S1x1024x1024 : Shape := ⟨3, ![1, 1024, 1024]⟩
abbrev S_ : Shape := ⟨0, ![]⟩
abbrev S1024 : Shape := ⟨1, ![1024]⟩
abbrev S1024x1 : Shape := ⟨2, ![1024, 1]⟩

abbrev nBuf : Space → Nat
  | .hbm => 32
  | .vmem => 25
  | .smem => 0
  | _ => 0

abbrev bufTy : (tb : Table) → Fin (tcTables nBuf tb) → BufTy
  | .hbm, ⟨0, _⟩ => ⟨S1x2048x4096, .f32⟩
  | .hbm, ⟨1, _⟩ => ⟨S1x2048x128, .f32⟩
  | .hbm, ⟨2, _⟩ => ⟨S1x2048x128, .f32⟩
  | .hbm, ⟨3, _⟩ => ⟨S1x1x2048x2048, .f32⟩
  | .hbm, ⟨4, _⟩ => ⟨S4096x4096, .f32⟩
  | .hbm, ⟨5, _⟩ => ⟨S1024x4096, .f32⟩
  | .hbm, ⟨6, _⟩ => ⟨S1024x4096, .f32⟩
  | .hbm, ⟨7, _⟩ => ⟨S4096x4096, .f32⟩
  | .hbm, ⟨8, _⟩ => ⟨S2048x4096, .f32⟩
  | .hbm, ⟨9, _⟩ => ⟨S2048x4096, .bf16⟩
  | .hbm, ⟨10, _⟩ => ⟨S6144x4096, .f32⟩
  | .hbm, ⟨11, _⟩ => ⟨S6144x4096, .bf16⟩
  | .hbm, ⟨12, _⟩ => ⟨S2048x128, .f32⟩
  | .hbm, ⟨13, _⟩ => ⟨S2048x128, .f32⟩
  | .hbm, ⟨14, _⟩ => ⟨S2048x6144, .bf16⟩
  | .hbm, ⟨15, _⟩ => ⟨S1x1024x1024, .i32⟩
  | .hbm, ⟨16, _⟩ => ⟨S1x1024x1024, .i32⟩
  | .hbm, ⟨17, _⟩ => ⟨S1x1024x1024, .i32⟩
  | .hbm, ⟨18, _⟩ => ⟨S_, .i32⟩
  | .hbm, ⟨19, _⟩ => ⟨S1x1024x1024, .i32⟩
  | .hbm, ⟨20, _⟩ => ⟨S1x1024x1024, .i32⟩
  | .hbm, ⟨21, _⟩ => ⟨S1x1024x1024, .i32⟩
  | .hbm, ⟨22, _⟩ => ⟨S1x1024x1024, .i1⟩
  | .hbm, ⟨23, _⟩ => ⟨S_, .f32⟩
  | .hbm, ⟨24, _⟩ => ⟨S_, .f32⟩
  | .hbm, ⟨25, _⟩ => ⟨S1x1024x1024, .f32⟩
  | .hbm, ⟨26, _⟩ => ⟨S1x1024x1024, .f32⟩
  | .hbm, ⟨27, _⟩ => ⟨S1x1024x1024, .f32⟩
  | .hbm, ⟨28, _⟩ => ⟨S2048x4096, .bf16⟩
  | .hbm, ⟨29, _⟩ => ⟨S4096x4096, .bf16⟩
  | .hbm, ⟨30, _⟩ => ⟨S2048x4096, .f32⟩
  | .hbm, ⟨31, _⟩ => ⟨S1x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S1024x128, .bf16⟩
  | .local _ .vmem, ⟨11, _⟩ => ⟨S1024x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S1x1024x1024, .f32⟩
  | .local _ .vmem, ⟨17, _⟩ => ⟨S1024x128, .bf16⟩
  | .local _ .vmem, ⟨18, _⟩ => ⟨S1024x128, .bf16⟩
  | .local _ .vmem, ⟨19, _⟩ => ⟨S1024x4096, .bf16⟩
  | .local _ .vmem, ⟨20, _⟩ => ⟨S1024x4096, .bf16⟩
  | .local _ .vmem, ⟨21, _⟩ => ⟨S1024x4096, .bf16⟩
  | .local _ .vmem, ⟨22, _⟩ => ⟨S1024x4096, .bf16⟩
  | .local _ .vmem, ⟨23, _⟩ => ⟨S1024x1024, .f32⟩
  | .local _ .vmem, ⟨24, _⟩ => ⟨S1024x1024, .f32⟩
  | _, _ => ⟨S1x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![32, 2], ![false, false]⟩

def k1_cond1 (i : grid1.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_1 : BitVec 32 := 0#32
  let v4 : BitVec 1 := Scalar.cmpi .ne v3 c0_i32_1
  v4

def k1_cond2 (i : grid1.Coords) : BitVec 1 :=
  let arg1 : BitVec 32 := BitVec.ofNat 32 (i 1).val
  let c1_i32 : BitVec 32 := 1#32
  let v5 : BitVec 1 := Scalar.cmpi .eq arg1 c1_i32
  let v6 : BitVec 32 := Scalar.extui v5
  let c0_i32_2 : BitVec 32 := 0#32
  let v7 : BitVec 1 := Scalar.cmpi .ne v6 c0_i32_2
  v7

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32 : BitVec 32 := 32#32
  let v17 : BitVec 32 := Scalar.addi c32_i32 v16
  let c0_i32_4 : BitVec 32 := 0#32
  let c0_i32_5 : BitVec 32 := 0#32
  ![c0_i32_4.toNat, v17.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c40_i32 : BitVec 32 := 40#32
  let v17 : BitVec 32 := Scalar.addi c40_i32 v16
  let c0_i32_4 : BitVec 32 := 0#32
  let c0_i32_5 : BitVec 32 := 0#32
  ![c0_i32_4.toNat, v17.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== KernelIdeal.lean ====
variable {F : FTy → Type} [FloatOps F] [Named F]
def κ : String → Option EReal := fun
  | "qscale" => some (((Real.sqrt 128)⁻¹ * (Real.log 2)⁻¹ : ℝ) : EReal)
  | _ => none
-- ==== ReferenceIdeal.lean ====
abbrev S1x2048x4096 : Shape := ⟨3, ![1, 2048, 4096]⟩
abbrev S1x2048x128 : Shape := ⟨3, ![1, 2048, 128]⟩
abbrev S1x1x2048x2048 : Shape := ⟨4, ![1, 1, 2048, 2048]⟩
abbrev S4096x4096 : Shape := ⟨2, ![4096, 4096]⟩
abbrev S1024x4096 : Shape := ⟨2, ![1024, 4096]⟩
abbrev S1x2048x32x128 : Shape := ⟨4, ![1, 2048, 32, 128]⟩
abbrev S1x32x2048x128 : Shape := ⟨4, ![1, 32, 2048, 128]⟩
abbrev S4096x1024 : Shape := ⟨2, ![4096, 1024]⟩
abbrev S1x2048x1024 : Shape := ⟨3, ![1, 2048, 1024]⟩
abbrev S1x2048x8x128 : Shape := ⟨4, ![1, 2048, 8, 128]⟩
abbrev S1x8x2048x128 : Shape := ⟨4, ![1, 8, 2048, 128]⟩
abbrev S1x1x2048x128 : Shape := ⟨4, ![1, 1, 2048, 128]⟩
abbrev S1x32x2048x64 : Shape := ⟨4, ![1, 32, 2048, 64]⟩
abbrev S1x8x2048x64 : Shape := ⟨4, ![1, 8, 2048, 64]⟩
abbrev S1x8x4x2048x128 : Shape := ⟨5, ![1, 8, 4, 2048, 128]⟩
abbrev S1x32x2048x2048 : Shape := ⟨4, ![1, 32, 2048, 2048]⟩
abbrev S_ : Shape := ⟨0, ![]⟩
abbrev S2048x2048 : Shape := ⟨2, ![2048, 2048]⟩
abbrev S1x32x2048 : Shape := ⟨3, ![1, 32, 2048]⟩
abbrev S1x32x2048x1 : Shape := ⟨4, ![1, 32, 2048, 1]⟩

abbrev nBuf : Space → Nat
  | .hbm => 86
  | .vmem => 0
  | .smem => 0
  | _ => 0

abbrev bufTy : (tb : Table) → Fin (tcTables nBuf tb) → BufTy
  | .hbm, ⟨0, _⟩ => ⟨S1x2048x4096, .f32⟩
  | .hbm, ⟨1, _⟩ => ⟨S1x2048x128, .f32⟩
  | .hbm, ⟨2, _⟩ => ⟨S1x2048x128, .f32⟩
  | .hbm, ⟨3, _⟩ => ⟨S1x1x2048x2048, .f32⟩
  | .hbm, ⟨4, _⟩ => ⟨S4096x4096, .f32⟩
  | .hbm, ⟨5, _⟩ => ⟨S1024x4096, .f32⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S1x2048x4096, .f32⟩
  | .hbm, ⟨10, _⟩ => ⟨S1x2048x32x128, .f32⟩
  | .hbm, ⟨11, _⟩ => ⟨S1x32x2048x128, .f32⟩
  | .hbm, ⟨12, _⟩ => ⟨S4096x1024, .f32⟩
  | .hbm, ⟨13, _⟩ => ⟨S1x2048x1024, .f32⟩
  | .hbm, ⟨14, _⟩ => ⟨S1x2048x8x128, .f32⟩
  | .hbm, ⟨15, _⟩ => ⟨S1x8x2048x128, .f32⟩
  | .hbm, ⟨16, _⟩ => ⟨S4096x1024, .f32⟩
  | .hbm, ⟨17, _⟩ => ⟨S1x2048x1024, .f32⟩
  | .hbm, ⟨18, _⟩ => ⟨S1x2048x8x128, .f32⟩
  | .hbm, ⟨19, _⟩ => ⟨S1x8x2048x128, .f32⟩
  | .hbm, ⟨20, _⟩ => ⟨S1x1x2048x128, .f32⟩
  | .hbm, ⟨21, _⟩ => ⟨S1x1x2048x128, .f32⟩
  | .hbm, ⟨22, _⟩ => ⟨S1x32x2048x128, .f32⟩
  | .hbm, ⟨23, _⟩ => ⟨S1x32x2048x128, .f32⟩
  | .hbm, ⟨24, _⟩ => ⟨S1x32x2048x64, .f32⟩
  | .hbm, ⟨25, _⟩ => ⟨S1x32x2048x64, .f32⟩
  | .hbm, ⟨26, _⟩ => ⟨S1x32x2048x64, .f32⟩
  | .hbm, ⟨27, _⟩ => ⟨S1x32x2048x128, .f32⟩
  | .hbm, ⟨28, _⟩ => ⟨S1x32x2048x128, .f32⟩
  | .hbm, ⟨29, _⟩ => ⟨S1x32x2048x128, .f32⟩
  | .hbm, ⟨30, _⟩ => ⟨S1x32x2048x128, .f32⟩
  | .hbm, ⟨31, _⟩ => ⟨S1x8x2048x128, .f32⟩
  | .hbm, ⟨32, _⟩ => ⟨S1x8x2048x128, .f32⟩
  | .hbm, ⟨33, _⟩ => ⟨S1x8x2048x64, .f32⟩
  | .hbm, ⟨34, _⟩ => ⟨S1x8x2048x64, .f32⟩
  | .hbm, ⟨35, _⟩ => ⟨S1x8x2048x64, .f32⟩
  | .hbm, ⟨36, _⟩ => ⟨S1x8x2048x128, .f32⟩
  | .hbm, ⟨37, _⟩ => ⟨S1x8x2048x128, .f32⟩
  | .hbm, ⟨38, _⟩ => ⟨S1x8x2048x128, .f32⟩
  | .hbm, ⟨39, _⟩ => ⟨S1x8x2048x128, .f32⟩
  | .hbm, ⟨40, _⟩ => ⟨S1x8x4x2048x128, .f32⟩
  | .hbm, ⟨41, _⟩ => ⟨S1x32x2048x128, .f32⟩
  | .hbm, ⟨42, _⟩ => ⟨S1x8x4x2048x128, .f32⟩
  | .hbm, ⟨43, _⟩ => ⟨S1x32x2048x128, .f32⟩
  | .hbm, ⟨44, _⟩ => ⟨S1x32x2048x2048, .f32⟩
  | .hbm, ⟨45, _⟩ => ⟨S_, .f32⟩
  | .hbm, ⟨46, _⟩ => ⟨S_, .f32⟩
  | .hbm, ⟨47, _⟩ => ⟨S1x32x2048x2048, .f32⟩
  | .hbm, ⟨48, _⟩ => ⟨S1x32x2048x2048, .f32⟩
  | .hbm, ⟨49, _⟩ => ⟨S_, .i1⟩
  | .hbm, ⟨50, _⟩ => ⟨S2048x2048, .i1⟩
  | .hbm, ⟨51, _⟩ => ⟨S2048x2048, .i32⟩
  | .hbm, ⟨52, _⟩ => ⟨S_, .i32⟩
  | .hbm, ⟨53, _⟩ => ⟨S2048x2048, .i32⟩
  | .hbm, ⟨54, _⟩ => ⟨S2048x2048, .i32⟩
  | .hbm, ⟨55, _⟩ => ⟨S2048x2048, .i32⟩
  | .hbm, ⟨56, _⟩ => ⟨S2048x2048, .i1⟩
  | .hbm, ⟨57, _⟩ => ⟨S_, .i1⟩
  | .hbm, ⟨58, _⟩ => ⟨S2048x2048, .i1⟩
  | .hbm, ⟨59, _⟩ => ⟨S2048x2048, .i1⟩
  | .hbm, ⟨60, _⟩ => ⟨S1x1x2048x2048, .i1⟩
  | .hbm, ⟨61, _⟩ => ⟨S_, .f32⟩
  | .hbm, ⟨62, _⟩ => ⟨S1x32x2048x2048, .i1⟩
  | .hbm, ⟨63, _⟩ => ⟨S1x32x2048x2048, .f32⟩
  | .hbm, ⟨64, _⟩ => ⟨S1x32x2048x2048, .f32⟩
  | .hbm, ⟨65, _⟩ => ⟨S1x32x2048x2048, .f32⟩
  | .hbm, ⟨66, _⟩ => ⟨S1x32x2048x2048, .f32⟩
  | .hbm, ⟨67, _⟩ => ⟨S_, .f32⟩
  | .hbm, ⟨68, _⟩ => ⟨S1x32x2048, .f32⟩
  | .hbm, ⟨69, _⟩ => ⟨S_, .f32⟩
  | .hbm, ⟨70, _⟩ => ⟨S1x32x2048, .f32⟩
  | .hbm, ⟨71, _⟩ => ⟨S1x32x2048, .f32⟩
  | .hbm, ⟨72, _⟩ => ⟨S1x32x2048x1, .f32⟩
  | .hbm, ⟨73, _⟩ => ⟨S1x32x2048x2048, .f32⟩
  | .hbm, ⟨74, _⟩ => ⟨S1x32x2048x2048, .f32⟩
  | .hbm, ⟨75, _⟩ => ⟨S1x32x2048x2048, .f32⟩
  | .hbm, ⟨76, _⟩ => ⟨S_, .f32⟩
  | .hbm, ⟨77, _⟩ => ⟨S1x32x2048, .f32⟩
  | .hbm, ⟨78, _⟩ => ⟨S1x32x2048x1, .f32⟩
  | .hbm, ⟨79, _⟩ => ⟨S1x32x2048x2048, .f32⟩
  | .hbm, ⟨80, _⟩ => ⟨S1x32x2048x2048, .f32⟩
  | .hbm, ⟨81, _⟩ => ⟨S1x32x2048x128, .f32⟩
  | .hbm, ⟨82, _⟩ => ⟨S1x2048x32x128, .f32⟩
  | .hbm, ⟨83, _⟩ => ⟨S1x2048x4096, .f32⟩
  | .hbm, ⟨84, _⟩ => ⟨S4096x4096, .f32⟩
  | .hbm, ⟨85, _⟩ => ⟨S1x2048x4096, .f32⟩
  | _, _ => ⟨S1x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c : Ref sig .tc := ⟨.hbm, 49, rfl⟩
abbrev main_v40 : Ref sig .tc := ⟨.hbm, 50, rfl⟩
abbrev main_call0_v0 : Ref sig .tc := ⟨.hbm, 51, rfl⟩
abbrev main_call0_c : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_c_0 : Ref sig .tc := ⟨.hbm, 57, rfl⟩
abbrev main_call0_v5 : Ref sig .tc := ⟨.hbm, 58, rfl⟩
abbrev main_v41 : Ref sig .tc := ⟨.hbm, 59, rfl⟩
abbrev main_v42 : Ref sig .tc := ⟨.hbm, 60, rfl⟩
abbrev main_cst_0 : Ref sig .tc := ⟨.hbm, 61, rfl⟩
abbrev main_call1_v0 : Ref sig .tc := ⟨.hbm, 62, rfl⟩
abbrev main_call1_v1 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_1 : Ref sig .tc := ⟨.hbm, 67, rfl⟩
abbrev main_v46 : Ref sig .tc := ⟨.hbm, 68, rfl⟩
abbrev main_cst_2 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_3 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== Proof.Region0.lean ====
/-
  The first kernel region, the three projections with the rotary embedding: what one grid point computes, and the body's run.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Proof.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The offsets of a whole two-axis block are zero. -/
theorem zero2 : (![0, 0] : Fin 2 → Nat) = fun _ => 0 := by decide

/-- Whether a grid point's column block holds query or key heads: the word the body branches on. -/
def rotates (i : grid0.Coords) : BitVec 1 :=
  Scalar.cmpi .ne (Scalar.extui (Scalar.cmpi .slt (Scalar.muli (BitVec.ofNat 32 (i 1).val) 8#32) 40#32) : BitVec 32) 0#32

/-- What a grid point leaves in its output block: the product of the blocks, rotated and scaled where the block holds
    query or key heads. -/
def out (i : grid0.Coords) (x w : Vec F S1024x4096 .bf16) (cs sn : Vec F S1024x128 .f32) : Vec F S1024x1024 .bf16 :=
  k0_pay3 (if rotates i = 1#1
    then k0_pay2 (k0_pay4 (BitVec.ofNat 32 (i 1).val)) (k0_pay5 (k0_pay1 x w) cs) (k0_pay6 (k0_pay1 x w) sn)
    else k0_pay1 x w)

set_option maxHeartbeats 1000000 in
/-- On whole staging buffers the body leaves its four inputs as they were and `out` in the output. -/
theorem run (c : Dev nD) (i : grid0.Coords) (arg2 : Memref sig .tc .vmem S1024x4096 .bf16) (harg2 : arg2.IsWhole)
    (arg3 : Memref sig .tc .vmem S1024x4096 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x1024 .bf16) (harg6 : arg6.IsWhole)
    (x w : Vec F S1024x4096 .bf16) (cs sn : Vec F S1024x128 .f32) (K : PUnit → sProp 𝕄) :
    iprop(owns (c : Thread nD τ) arg2 fullShare x ∗ owns (c : Thread nD τ) arg3 fullShare w
        ∗ owns (c : Thread nD τ) arg4 fullShare cs ∗ owns (c : Thread nD τ) arg5 fullShare sn
        ∗ (∃ d, owns (c : Thread nD τ) arg6 fullShare d)
        ∗ (iprop(owns (c : Thread nD τ) arg2 fullShare x ∗ owns (c : Thread nD τ) arg3 fullShare w
            ∗ owns (c : Thread nD τ) arg4 fullShare cs ∗ owns (c : Thread nD τ) arg5 fullShare sn
            ∗ owns (c : Thread nD τ) arg6 fullShare (out i x w cs sn)) -∗ K ⟨⟩))
      ⊢ wp frame (wpE (defs₀ (F := F)) Variants.none c none) Set.univ
          (cc0__qkv_body i arg2 harg2 arg3 harg3 arg4 harg4 arg5 harg5 arg6 harg6) K := by
  simp only [cc0__qkv_body_eq_skeleton]; unfold cc0__qkv_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1
  obtain rfl := harg4.eq_unread hf2; obtain rfl := harg5.eq_unread hf3
  unfold out
  by_cases h : rotates i = 1#1
  · rw [if_pos h]
    unfold rotates at h
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; (· iexact H4)
    ipureintro
    rw [View.read_writes_eq_canon _ _ _ (fun y => ⟨_, List.mem_singleton_self _, View.mem_set_unit_zero zero2 inb_S1024x1024_S1024x1024_0_0 y⟩),
      View.canon_unit_zero (S := S1024x1024) zero2]
    simp only [View.readAt_eq_ld, harg2.read_unread, harg3.read_unread, harg4.read_unread, harg5.read_unread,
      View.ld_unit_zero (S := S1024x4096) zero2, View.ld_unit_zero (S := S1024x128) zero2]
  · rw [if_neg h]
    unfold rotates at h
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; (· iexact H4)
    ipureintro
    rw [View.read_writes_eq_canon _ _ _ (fun y => ⟨_, List.mem_singleton_self _, View.mem_set_unit_zero zero2 inb_S1024x1024_S1024x1024_0_0 y⟩),
      View.canon_unit_zero (S := S1024x1024) zero2]
    simp only [View.readAt_eq_ld, harg2.read_unread, harg3.read_unread,
      View.ld_unit_zero (S := S1024x4096) zero2]

/-! ## The proof data -/

/-- Window `w`'s block at point `t`, read off its array at the contents `V` the region is entered with. -/
def blockAt (V : Dev nD → Valuation τ sig (Elt F)) (c : Dev nD) (w : Fin cfg0.W) (t : Fin cfg0.N) :
    ((cfg0.win w).xblock (cfg0.grid.coords t)).Idx → Elt F (cfg0.win w).elt :=
  ((cfg0.win w).blk t).view.read (Elt F) (V c (Proc.devRef .tc (Pipeline.arrRef spec0 w)))

variable (V : Dev nD → Valuation τ sig (Elt F))

/-- The region's proof data: the arrays as found; each input's buffer left at its block and the output's at `out`;
    the scoped rest and the random-number register pass through; nothing owed; each array's share dealt among its windows. -/
def dat (c : Dev nD) : Dat τ (Elt F) Unit ℕ (UR sig nD τ) ℕ cfg0 c where
  A w := V c (Proc.devRef .tc (Pipeline.arrRef spec0 w))
  after w t := match w with
    | ⟨0, _⟩ => blockAt V c 0 t
    | ⟨1, _⟩ => blockAt V c 1 t
    | ⟨2, _⟩ => blockAt V c 2 t
    | ⟨3, _⟩ => blockAt V c 3 t
    | ⟨4, _⟩ => out (grid0.coords t) (blockAt V c 0 t) (blockAt V c 1 t) (blockAt V c 2 t) (blockAt V c 3 t)
  Φ _ := iprop(Pipeline.scopedRest (Ix := Unit) (Name := ℕ) (U := UR sig nD τ) (Lvl := ℕ) (Val := Elt F) spec0 c
    ∗ ∃ r, prngReg c r)
  q w := Pipeline.shareOf spec0 w
  owed _ := 0

/-- The arrays that the call is entered with. -/
theorem A_eq (c : Dev nD) (w : Fin cfg0.W) :
    (dat V c).A w = V c (Proc.devRef .tc (Pipeline.arrRef spec0 w)) := by dsimp only [dat]
/-- Input 0's staging buffer is left as fetched. -/
theorem after_0 (c : Dev nD) (t : Fin cfg0.N) : (dat V c).after 0 t = blockAt V c 0 t := by dsimp only [dat]
/-- Input 1's staging buffer is left as fetched. -/
theorem after_1 (c : Dev nD) (t : Fin cfg0.N) : (dat V c).after 1 t = blockAt V c 1 t := by dsimp only [dat]
/-- Input 2's staging buffer is left as fetched. -/
theorem after_2 (c : Dev nD) (t : Fin cfg0.N) : (dat V c).after 2 t = blockAt V c 2 t := by dsimp only [dat]
/-- Input 3's staging buffer is left as fetched. -/
theorem after_3 (c : Dev nD) (t : Fin cfg0.N) : (dat V c).after 3 t = blockAt V c 3 t := by dsimp only [dat]
/-- The output's staging buffer is left with the block that the grid point computes. -/
theorem after_4 (c : Dev nD) (t : Fin cfg0.N) : (dat V c).after 4 t = out (grid0.coords t) (blockAt V c 0 t) (blockAt V c 1 t) (blockAt V c 2 t) (blockAt V c 3 t) := by dsimp only [dat]

/-- Input 0's staging buffer holds its block at every point. -/
theorem before_0 (c : Dev nD) (t : Fin cfg0.N) (d) : (dat V c).before 0 t d = blockAt V c 0 t :=
  ((dat V c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)
/-- Input 1's staging buffer holds its block at every point. -/
theorem before_1 (c : Dev nD) (t : Fin cfg0.N) (d) : (dat V c).before 1 t d = blockAt V c 1 t :=
  ((dat V c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)
/-- Input 2's staging buffer holds its block at every point. -/
theorem before_2 (c : Dev nD) (t : Fin cfg0.N) (d) : (dat V c).before 2 t d = blockAt V c 2 t :=
  ((dat V c).before_in_eq_fetched 2 rfl (fun _ => rfl) (fun _ _ _ => rfl)
    (fun t => by rw [after_2]; unfold Dat.blockOf blockAt; rw [A_eq]; try rfl) t d).trans
    (by unfold Dat.fetched Dat.blockOf blockAt; rw [A_eq]; try rfl)
/-- Input 3's staging buffer holds its block at every point. -/
theorem before_3 (c : Dev nD) (t : Fin cfg0.N) (d) : (dat V c).before 3 t d = blockAt V c 3 t :=
  ((dat V c).before_in_eq_fetched 3 rfl (fun _ => rfl) (fun _ _ _ => rfl)
    (fun t => by rw [after_3]; unfold Dat.blockOf blockAt; rw [A_eq]; try rfl) t d).trans
    (by unfold Dat.fetched Dat.blockOf blockAt; rw [A_eq]; try rfl)

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (win0_0.stage (cfg0.slots t 0)) fullShare ((dat V c).before 0 t d))
    ∗ (∃ d, owns (c : Thread nD τ) (win0_1.stage (cfg0.slots t 1)) fullShare ((dat V c).before 1 t d))
    ∗ (∃ d, owns (c : Thread nD τ) (win0_2.stage (cfg0.slots t 2)) fullShare ((dat V c).before 2 t d))
    ∗ (∃ d, owns (c : Thread nD τ) (win0_3.stage (cfg0.slots t 3)) fullShare ((dat V c).before 3 t d))
    ∗ (∃ d, owns (c : Thread nD τ) (win0_4.stage (cfg0.slots t 4)) fullShare ((dat V c).before 4 t d)))

/-- What it returns there. -/
def bodyPost (c : Dev nD) (t : Fin cfg0.N) : sProp 𝕄 :=
  iprop((dat V c).Φ t.succ ∗ (dat V c).owesAt () t.succ
    ∗ owns (c : Thread nD τ) (win0_0.stage (cfg0.slots t 0)) fullShare ((dat V c).after 0 t)
    ∗ owns (c : Thread nD τ) (win0_1.stage (cfg0.slots t 1)) fullShare ((dat V c).after 1 t)
    ∗ owns (c : Thread nD τ) (win0_2.stage (cfg0.slots t 2)) fullShare ((dat V c).after 2 t)
    ∗ owns (c : Thread nD τ) (win0_3.stage (cfg0.slots t 3)) fullShare ((dat V c).after 3 t)
    ∗ owns (c : Thread nD τ) (win0_4.stage (cfg0.slots t 4)) fullShare ((dat V c).after 4 t))

/-- The body at any point: its inputs' buffers hold their blocks, so `run` applies. -/
theorem sound (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl, after_0, after_1, after_2, after_3, after_4]
  iintro ⟨HΦ, Ho, ⟨%d0, H0⟩, ⟨%d1, H1⟩, ⟨%d2, H2⟩, ⟨%d3, H3⟩, ⟨%d4, H4⟩⟩
  iapply (run c (grid0.coords t) _ _ _ _ _ _ _ _ _ _ (blockAt V c 0 t) (blockAt V c 1 t) (blockAt V c 2 t) (blockAt V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t` is the body as called there. -/
theorem row (t : Fin cfg0.N) :
    defs₀ (F := F) .tc cfg0.body (cfg0.bodyArgs t (cfg0.slots t)) = bodyAt0 t := by
  unfold defs₀; rw [Defs.onTc_tc]

/-- The obligation of the region's rule, at every point. -/
theorem obligation (c : Dev nD) : BodyObligation (dat V c) (defs₀ (F := F)) Variants.none () Set.univ := fun t => by
  rw [bigSep_W0, bigSep_W0, row]
  exact triple_restated (sound V c t) rfl .rfl fun _ => .rfl

end Cert.Proof.Qkv

end
-- ==== Proof.Region1.lean ====
/-
  The second kernel region, the attention: what one grid point computes, and the body's run.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The offsets of a whole two-axis block are zero. -/
theorem zero2 : (![0, 0] : Fin 2 → Nat) = fun _ => 0 := by decide

/-- The offsets of a whole three-axis block are zero. -/
theorem zero3 : (![0, 0, 0] : Fin 3 → Nat) = fun _ => 0 := by decide

/-- The first half of a head's keys or values. -/
abbrev firstHalf (k : Vec F S2048x128 .bf16) : Vec F S1024x128 .bf16 :=
  View.ld (Val := Elt F) k (Rect.unit (s := S2048x128) ![0, 0] S1024x128.size inb_S2048x128_S1024x128_0_0)
/-- The second half of a head's keys or values. -/
abbrev secondHalf (k : Vec F S2048x128 .bf16) : Vec F S1024x128 .bf16 :=
  View.ld (Val := Elt F) k (Rect.unit (s := S2048x128) ![1024, 0] S1024x128.size inb_S2048x128_S1024x128_1024_0)

/-- What a grid point leaves in its output block: a query block of the first half attends to the first half of the keys,
    one of the second half to both. -/
def out (i : grid1.Coords) (q : Vec F S1024x128 .bf16) (k v : Vec F S2048x128 .bf16) (tri : Vec F S1x1024x1024 .f32) :
    Vec F S1024x128 .bf16 :=
  if k1_cond1 i = 1#1 then k1_pay2 q (firstHalf k) tri (firstHalf v)
  else k1_pay3 q (secondHalf k) tri (secondHalf v) (firstHalf k) (firstHalf v)

/-- A grid point takes one of the two branches, never both. -/
theorem cond_cases (i : grid1.Coords) :
    (k1_cond1 i = 1#1 ∧ ¬ k1_cond2 i = 1#1) ∨ (¬ k1_cond1 i = 1#1 ∧ k1_cond2 i = 1#1) := by
  unfold k1_cond1 k1_cond2
  generalize i 1 = j
  revert j
  decide

set_option maxHeartbeats 1000000 in
/-- On whole staging buffers the body leaves its four inputs as they were and `out` in the output. -/
theorem run (c : Dev nD) (i : grid1.Coords) (arg2 : Memref sig .tc .vmem S1024x128 .bf16) (harg2 : arg2.IsWhole)
    (arg3 : Memref sig .tc .vmem S2048x128 .bf16) (harg3 : arg3.IsWhole)
    (arg4 : Memref sig .tc .vmem S2048x128 .bf16) (harg4 : arg4.IsWhole)
    (arg5 : Memref sig .tc .vmem S1x1024x1024 .f32) (harg5 : arg5.IsWhole)
    (arg6 : Memref sig .tc .vmem S1024x128 .bf16) (harg6 : arg6.IsWhole)
    (q : Vec F S1024x128 .bf16) (k v : Vec F S2048x128 .bf16) (tri : Vec F S1x1024x1024 .f32) (K : PUnit → sProp 𝕄) :
    iprop(owns (c : Thread nD τ) arg2 fullShare q ∗ owns (c : Thread nD τ) arg3 fullShare k
        ∗ owns (c : Thread nD τ) arg4 fullShare v ∗ owns (c : Thread nD τ) arg5 fullShare tri
        ∗ (∃ d, owns (c : Thread nD τ) arg6 fullShare d)
        ∗ (iprop(owns (c : Thread nD τ) arg2 fullShare q ∗ owns (c : Thread nD τ) arg3 fullShare k
            ∗ owns (c : Thread nD τ) arg4 fullShare v ∗ owns (c : Thread nD τ) arg5 fullShare tri
            ∗ owns (c : Thread nD τ) arg6 fullShare (out i q k v tri)) -∗ K ⟨⟩))
      ⊢ wp frame (wpE (defs₀ (F := F)) Variants.none c none) Set.univ
          (cc1__flash_body i arg2 harg2 arg3 harg3 arg4 harg4 arg5 harg5 arg6 harg6) K := by
  simp only [cc1__flash_body_eq_skeleton]; unfold cc1__flash_body_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1
  obtain rfl := harg4.eq_unread hf2; obtain rfl := harg5.eq_unread hf3
  unfold out
  rcases cond_cases i with ⟨h1, h2⟩ | ⟨h1, h2⟩
  · rw [if_pos h1]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; (· iexact H4)
    ipureintro
    rw [View.read_writes_eq_canon _ _ _ (fun y => ⟨_, List.mem_singleton_self _, View.mem_set_unit_zero zero2 inb_S1024x128_S1024x128_0_0 y⟩),
      View.canon_unit_zero (S := S1024x128) zero2]
    simp only [View.readAt_eq_ld, harg2.read_unread, harg3.read_unread, harg4.read_unread, harg5.read_unread,
      View.ld_unit_zero (S := S1x1024x1024) zero3, View.ld_unit_zero (S := S1024x128) zero2]
  · rw [if_neg h1]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; (· iexact H4)
    ipureintro
    rw [View.read_writes_eq_canon _ _ _ (fun y => ⟨_, List.mem_singleton_self _, View.mem_set_unit_zero zero2 inb_S1024x128_S1024x128_0_0 y⟩),
      View.canon_unit_zero (S := S1024x128) zero2]
    simp only [View.readAt_eq_ld, harg2.read_unread, harg3.read_unread, harg4.read_unread, harg5.read_unread,
      View.ld_unit_zero (S := S1x1024x1024) zero3, View.ld_unit_zero (S := S1024x128) zero2]

/-! ## The proof data -/

/-- Window `w`'s block at point `t`, read off its array at the contents `V` the region is entered with. -/
def blockAt (V : Dev nD → Valuation τ sig (Elt F)) (c : Dev nD) (w : Fin cfg1.W) (t : Fin cfg1.N) :
    ((cfg1.win w).xblock (cfg1.grid.coords t)).Idx → Elt F (cfg1.win w).elt :=
  ((cfg1.win w).blk t).view.read (Elt F) (V c (Proc.devRef .tc (Pipeline.arrRef spec1 w)))

variable (V : Dev nD → Valuation τ sig (Elt F))

/-- The region's proof data: the arrays as found; each input's buffer left at its block and the output's at `out`;
    the scoped rest and the random-number register pass through; nothing owed; each array's share dealt among its windows. -/
def dat (c : Dev nD) : Dat τ (Elt F) Unit ℕ (UR sig nD τ) ℕ cfg1 c where
  A w := V c (Proc.devRef .tc (Pipeline.arrRef spec1 w))
  after w t := match w with
    | ⟨0, _⟩ => blockAt V c 0 t
    | ⟨1, _⟩ => blockAt V c 1 t
    | ⟨2, _⟩ => blockAt V c 2 t
    | ⟨3, _⟩ => blockAt V c 3 t
    | ⟨4, _⟩ => out (grid1.coords t) (blockAt V c 0 t) (blockAt V c 1 t) (blockAt V c 2 t) (blockAt V c 3 t)
  Φ _ := iprop(Pipeline.scopedRest (Ix := Unit) (Name := ℕ) (U := UR sig nD τ) (Lvl := ℕ) (Val := Elt F) spec1 c
    ∗ ∃ r, prngReg c r)
  q w := Pipeline.shareOf spec1 w
  owed _ := 0

/-- The arrays that the call is entered with. -/
theorem A_eq (c : Dev nD) (w : Fin cfg1.W) :
    (dat V c).A w = V c (Proc.devRef .tc (Pipeline.arrRef spec1 w)) := by dsimp only [dat]
/-- Input 0's staging buffer is left as fetched. -/
theorem after_0 (c : Dev nD) (t : Fin cfg1.N) : (dat V c).after 0 t = blockAt V c 0 t := by dsimp only [dat]
/-- Input 1's staging buffer is left as fetched. -/
theorem after_1 (c : Dev nD) (t : Fin cfg1.N) : (dat V c).after 1 t = blockAt V c 1 t := by dsimp only [dat]
/-- Input 2's staging buffer is left as fetched. -/
theorem after_2 (c : Dev nD) (t : Fin cfg1.N) : (dat V c).after 2 t = blockAt V c 2 t := by dsimp only [dat]
/-- Input 3's staging buffer is left as fetched. -/
theorem after_3 (c : Dev nD) (t : Fin cfg1.N) : (dat V c).after 3 t = blockAt V c 3 t := by dsimp only [dat]
/-- The output's staging buffer is left with the block that the grid point computes. -/
theorem after_4 (c : Dev nD) (t : Fin cfg1.N) : (dat V c).after 4 t = out (grid1.coords t) (blockAt V c 0 t) (blockAt V c 1 t) (blockAt V c 2 t) (blockAt V c 3 t) := by dsimp only [dat]

/-- Input 0's staging buffer holds its block at every point. -/
theorem before_0 (c : Dev nD) (t : Fin cfg1.N) (d) : (dat V c).before 0 t d = blockAt V c 0 t :=
  ((dat V c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)
/-- Input 1's staging buffer holds its block at every point. -/
theorem before_1 (c : Dev nD) (t : Fin cfg1.N) (d) : (dat V c).before 1 t d = blockAt V c 1 t :=
  ((dat V c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)
/-- Input 2's staging buffer holds its block at every point. -/
theorem before_2 (c : Dev nD) (t : Fin cfg1.N) (d) : (dat V c).before 2 t d = blockAt V c 2 t :=
  ((dat V c).before_in_eq_fetched 2 rfl (fun _ => rfl) (fun _ _ _ => rfl)
    (fun t => by rw [after_2]; unfold Dat.blockOf blockAt; rw [A_eq]; try rfl) t d).trans
    (by unfold Dat.fetched Dat.blockOf blockAt; rw [A_eq]; try rfl)
/-- Input 3's staging buffer holds its block at every point. -/
theorem before_3 (c : Dev nD) (t : Fin cfg1.N) (d) : (dat V c).before 3 t d = blockAt V c 3 t :=
  ((dat V c).before_in_eq_fetched 3 rfl (fun _ => rfl) (fun _ _ _ => rfl)
    (fun t => by rw [after_3]; unfold Dat.blockOf blockAt; rw [A_eq]; try rfl) t d).trans
    (by unfold Dat.fetched Dat.blockOf blockAt; rw [A_eq]; try rfl)

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (win1_0.stage (cfg1.slots t 0)) fullShare ((dat V c).before 0 t d))
    ∗ (∃ d, owns (c : Thread nD τ) (win1_1.stage (cfg1.slots t 1)) fullShare ((dat V c).before 1 t d))
    ∗ (∃ d, owns (c : Thread nD τ) (win1_2.stage (cfg1.slots t 2)) fullShare ((dat V c).before 2 t d))
    ∗ (∃ d, owns (c : Thread nD τ) (win1_3.stage (cfg1.slots t 3)) fullShare ((dat V c).before 3 t d))
    ∗ (∃ d, owns (c : Thread nD τ) (win1_4.stage (cfg1.slots t 4)) fullShare ((dat V c).before 4 t d)))

/-- What it returns there. -/
def bodyPost (c : Dev nD) (t : Fin cfg1.N) : sProp 𝕄 :=
  iprop((dat V c).Φ t.succ ∗ (dat V c).owesAt () t.succ
    ∗ owns (c : Thread nD τ) (win1_0.stage (cfg1.slots t 0)) fullShare ((dat V c).after 0 t)
    ∗ owns (c : Thread nD τ) (win1_1.stage (cfg1.slots t 1)) fullShare ((dat V c).after 1 t)
    ∗ owns (c : Thread nD τ) (win1_2.stage (cfg1.slots t 2)) fullShare ((dat V c).after 2 t)
    ∗ owns (c : Thread nD τ) (win1_3.stage (cfg1.slots t 3)) fullShare ((dat V c).after 3 t)
    ∗ owns (c : Thread nD τ) (win1_4.stage (cfg1.slots t 4)) fullShare ((dat V c).after 4 t))

/-- The body at any point: its inputs' buffers hold their blocks, so `run` applies. -/
theorem sound (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl, after_0, after_1, after_2, after_3, after_4]
  iintro ⟨HΦ, Ho, ⟨%d0, H0⟩, ⟨%d1, H1⟩, ⟨%d2, H2⟩, ⟨%d3, H3⟩, ⟨%d4, H4⟩⟩
  iapply (run c (grid1.coords t) _ _ _ _ _ _ _ _ _ _ (blockAt V c 0 t) (blockAt V c 1 t) (blockAt V c 2 t) (blockAt V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t` is the body as called there. -/
theorem row (t : Fin cfg1.N) :
    defs₀ (F := F) .tc cfg1.body (cfg1.bodyArgs t (cfg1.slots t)) = bodyAt1 t := by
  unfold defs₀; rw [Defs.onTc_tc]

/-- Every point stores its output block. -/
theorem not_idle (i : grid1.Coords) : cfg1.idle 4 i = false := by
  show (!(k1_cond1 i == 1#1) && !(k1_cond2 i == 1#1)) = false
  rcases cond_cases i with ⟨h, -⟩ | ⟨-, h⟩ <;> simp [h]

/-- The obligation of the region's rule, at every point. -/
theorem obligation (c : Dev nD) : BodyObligation (dat V c) (defs₀ (F := F)) Variants.none () Set.univ := fun t => by
  rw [bigSep_W1, bigSep_W1, row]
  exact triple_restated (sound V c t) rfl .rfl fun _ => by rw [not_idle]; exact .rfl

end Cert.Proof.Flash

end
-- ==== Proof.Region2.lean ====
/-
  The third kernel region, the output projection: what one grid point computes, and the body's run.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.Value
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Proof.Project

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The offsets of a whole two-axis block are zero. -/
theorem zero2 : (![0, 0] : Fin 2 → Nat) = fun _ => 0 := by decide

/-- On whole staging buffers the body leaves its two inputs as they were and the product of the blocks in the output. -/
theorem run (c : Dev nD) (i : grid2.Coords) (arg2 : Memref sig .tc .vmem S1024x4096 .bf16) (harg2 : arg2.IsWhole)
    (arg3 : Memref sig .tc .vmem S1024x4096 .bf16) (harg3 : arg3.IsWhole)
    (arg4 : Memref sig .tc .vmem S1024x1024 .f32) (harg4 : arg4.IsWhole)
    (x : Vec F S1024x4096 .bf16) (w : Vec F S1024x4096 .bf16) (K : PUnit → sProp 𝕄) :
    iprop(owns (c : Thread nD τ) arg2 fullShare x ∗ owns (c : Thread nD τ) arg3 fullShare w
        ∗ (∃ d, owns (c : Thread nD τ) arg4 fullShare d)
        ∗ (iprop(owns (c : Thread nD τ) arg2 fullShare x ∗ owns (c : Thread nD τ) arg3 fullShare w
            ∗ owns (c : Thread nD τ) arg4 fullShare (k2_pay1 x w)) -∗ K ⟨⟩))
      ⊢ wp frame (wpE (defs₀ (F := F)) Variants.none c none) Set.univ
          (cc2__matmul_nt_body i arg2 harg2 arg3 harg3 arg4 harg4) K := by
  simp only [cc2__matmul_nt_body_eq_skeleton]; unfold cc2__matmul_nt_body_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr; swap; (· iexact H2)
  ipureintro
  rw [View.read_writes_eq_canon _ _ _ (fun y => ⟨_, List.mem_singleton_self _, View.mem_set_unit_zero zero2 inb_S1024x1024_S1024x1024_0_0 y⟩),
    View.canon_unit_zero (S := S1024x1024) zero2]
  simp only [View.readAt_eq_ld, harg2.read_unread, harg3.read_unread, View.ld_unit_zero (S := S1024x4096) zero2]

/-! ## The proof data -/

/-- Window `w`'s block at point `t`, read off its array at the contents `V` the region is entered with. -/
def blockAt (V : Dev nD → Valuation τ sig (Elt F)) (c : Dev nD) (w : Fin cfg2.W) (t : Fin cfg2.N) :
    ((cfg2.win w).xblock (cfg2.grid.coords t)).Idx → Elt F (cfg2.win w).elt :=
  ((cfg2.win w).blk t).view.read (Elt F) (V c (Proc.devRef .tc (Pipeline.arrRef spec2 w)))

variable (V : Dev nD → Valuation τ sig (Elt F))

/-- The region's proof data: the arrays as found; each input's buffer left at its block and the output's at `k2_pay1`;
    the scoped rest and the random-number register pass through; nothing owed; each array's share dealt among its windows. -/
def dat (c : Dev nD) : Dat τ (Elt F) Unit ℕ (UR sig nD τ) ℕ cfg2 c where
  A w := V c (Proc.devRef .tc (Pipeline.arrRef spec2 w))
  after w t := match w with
    | ⟨0, _⟩ => blockAt V c 0 t
    | ⟨1, _⟩ => blockAt V c 1 t
    | ⟨2, _⟩ => k2_pay1 (blockAt V c 0 t) (blockAt V c 1 t)
  Φ _ := iprop(Pipeline.scopedRest (Ix := Unit) (Name := ℕ) (U := UR sig nD τ) (Lvl := ℕ) (Val := Elt F) spec2 c
    ∗ ∃ r, prngReg c r)
  q w := Pipeline.shareOf spec2 w
  owed _ := 0

/-- The arrays that the call is entered with. -/
theorem A_eq (c : Dev nD) (w : Fin cfg2.W) :
    (dat V c).A w = V c (Proc.devRef .tc (Pipeline.arrRef spec2 w)) := by dsimp only [dat]
/-- Input 0's staging buffer is left as fetched. -/
theorem after_0 (c : Dev nD) (t : Fin cfg2.N) : (dat V c).after 0 t = blockAt V c 0 t := by dsimp only [dat]
/-- Input 1's staging buffer is left as fetched. -/
theorem after_1 (c : Dev nD) (t : Fin cfg2.N) : (dat V c).after 1 t = blockAt V c 1 t := by dsimp only [dat]
/-- The output's staging buffer is left with the block that the grid point computes. -/
theorem after_2 (c : Dev nD) (t : Fin cfg2.N) : (dat V c).after 2 t = k2_pay1 (blockAt V c 0 t) (blockAt V c 1 t) := by dsimp only [dat]

/-- Input 0's staging buffer holds its block at every point. -/
theorem before_0 (c : Dev nD) (t : Fin cfg2.N) (d) : (dat V c).before 0 t d = blockAt V c 0 t :=
  ((dat V c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)
/-- Input 1's staging buffer holds its block at every point. -/
theorem before_1 (c : Dev nD) (t : Fin cfg2.N) (d) : (dat V c).before 1 t d = blockAt V c 1 t :=
  ((dat V c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)

/-- What the body is called with at point `t`. -/
def bodyPre (c : Dev nD) (t : Fin cfg2.N) : sProp 𝕄 :=
  iprop((dat V c).Φ t.castSucc ∗ (dat V c).owesAt () t.castSucc
    ∗ (∃ d, owns (c : Thread nD τ) (win2_0.stage (cfg2.slots t 0)) fullShare ((dat V c).before 0 t d))
    ∗ (∃ d, owns (c : Thread nD τ) (win2_1.stage (cfg2.slots t 1)) fullShare ((dat V c).before 1 t d))
    ∗ (∃ d, owns (c : Thread nD τ) (win2_2.stage (cfg2.slots t 2)) fullShare ((dat V c).before 2 t d)))

/-- What it returns there. -/
def bodyPost (c : Dev nD) (t : Fin cfg2.N) : sProp 𝕄 :=
  iprop((dat V c).Φ t.succ ∗ (dat V c).owesAt () t.succ
    ∗ owns (c : Thread nD τ) (win2_0.stage (cfg2.slots t 0)) fullShare ((dat V c).after 0 t)
    ∗ owns (c : Thread nD τ) (win2_1.stage (cfg2.slots t 1)) fullShare ((dat V c).after 1 t)
    ∗ owns (c : Thread nD τ) (win2_2.stage (cfg2.slots t 2)) fullShare ((dat V c).after 2 t))

/-- The body at any point: its inputs' buffers hold their blocks, so `run` applies. -/
theorem sound (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl, after_0, after_1, after_2]
  iintro ⟨HΦ, Ho, ⟨%d0, H0⟩, ⟨%d1, H1⟩, ⟨%d2, H2⟩⟩
  iapply (run c (grid2.coords t) _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t` is the body as called there. -/
theorem row (t : Fin cfg2.N) :
    defs₀ (F := F) .tc cfg2.body (cfg2.bodyArgs t (cfg2.slots t)) = bodyAt2 t := by
  unfold defs₀; rw [Defs.onTc_tc]

/-- The obligation of the region's rule, at every point. -/
theorem obligation (c : Dev nD) : BodyObligation (dat V c) (defs₀ (F := F)) Variants.none () Set.univ := fun t => by
  rw [bigSep_W2, bigSep_W2, row]
  exact triple_restated (sound V c t) rfl .rfl fun _ => .rfl

end Cert.Proof.Project

end
-- ==== Proof.Run.lean ====
/-
  The whole run, at any float instance: the three regions between the host operations, and what every buffer of the result
  and the arguments holds at the end.
-/
module

public import proofs.«01_k».proof.Proof.Region0
public import proofs.«01_k».proof.Proof.Region1
public import proofs.«01_k».proof.Proof.Region2
public import proofs.«01_k».proof.Proof.Gen.KernelIdeal.Regions
public import Idealize.ShloMosaic.Lib.Pipeline.RegionArrays
public import Idealize.ShloMosaic.Lib.Pipeline.RegionsLoop

@[expose] public section

noncomputable section

namespace Cert.Proof.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each region leaves -/

/-- The projections' array after the first region. -/
def projected (c : Dev nD) : Buf (Elt F) ((c : Thread nD τ).loc main_v6) := (Qkv.dat (V1 m) c).arrAt 4 cfg0.N

/-- The regions' results, the first region's filled in. -/
def outs1 : Outs (F := F) := fun _ r c => Function.update (fun r : Ref sig .tc => m ((c : Thread nD τ).loc r)) main_v6 (projected m c) r

/-- The attention's array after the second region. -/
def attended (c : Dev nD) : Buf (Elt F) ((c : Thread nD τ).loc main_v15) := (Flash.dat (V4 m (outs1 m)) c).arrAt 4 cfg1.N

/-- The regions' results, the first two filled in. -/
def outs2 : Outs (F := F) := fun J r c => Function.update (fun r => outs1 m J r c) main_v15 (attended m c) r

/-- The output projection's array after the third region. -/
def result (c : Dev nD) : Buf (Elt F) ((c : Thread nD τ).loc main_v17) := (Project.dat (V6 m (outs2 m)) c).arrAt 2 cfg2.N

/-- The regions' results. -/
def outs : Outs (F := F) := fun J r c => Function.update (fun r => outs2 m J r c) main_v17 (result m c) r

/-- The first region's result among all of them. -/
theorem outs_v6 (J : ℕ) (c : Dev nD) : outs m J main_v6 c = projected m c := by
  unfold outs outs2 outs1
  rw [Function.update_of_ne (by decide), Function.update_of_ne (by decide), Function.update_self]
/-- The second region's result among all of them. -/
theorem outs_v15 (J : ℕ) (c : Dev nD) : outs m J main_v15 c = attended m c := by
  unfold outs outs2
  rw [Function.update_of_ne (by decide), Function.update_self]
/-- The third region's result among all of them. -/
theorem outs_v17 (J : ℕ) (c : Dev nD) : outs m J main_v17 c = result m c := by
  unfold outs
  rw [Function.update_self]
/-- The first region's result where it alone is filled in. -/
theorem outs1_v6 (J : ℕ) (c : Dev nD) : outs1 m J main_v6 c = projected m c := by
  unfold outs1
  rw [Function.update_self]
/-- The first region's result where the first two are filled in. -/
theorem outs2_v6 (J : ℕ) (c : Dev nD) : outs2 m J main_v6 c = projected m c := by
  unfold outs2 outs1
  rw [Function.update_of_ne (by decide), Function.update_self]
/-- The second region's result where the first two are filled in. -/
theorem outs2_v15 (J : ℕ) (c : Dev nD) : outs2 m J main_v15 c = attended m c := by
  unfold outs2
  rw [Function.update_self]

/-- The contents the second and the third region are entered with depend on the earlier results alone. -/
theorem V4_outs : V4 m (outs m) = V4 m (outs1 m) := by
  funext c
  show StableHlo.after hostOps1_1 (StableHlo.after hostOps1 (Function.update (V1 m c) main_v6 (outs m 2 main_v6 c)))
    = StableHlo.after hostOps1_1 (StableHlo.after hostOps1 (Function.update (V1 m c) main_v6 (outs1 m 2 main_v6 c)))
  rw [outs_v6, outs1_v6]
/-- The contents the third region is entered with depend on the first two results alone. -/
theorem V6_outs : V6 m (outs m) = V6 m (outs2 m) := by
  funext c
  show StableHlo.after hostOps2 (Function.update (StableHlo.after hostOps1_1 (StableHlo.after hostOps1
      (Function.update (V1 m c) main_v6 (outs m 2 main_v6 c)))) main_v15 (outs m 5 main_v15 c))
    = StableHlo.after hostOps2 (Function.update (StableHlo.after hostOps1_1 (StableHlo.after hostOps1
      (Function.update (V1 m c) main_v6 (outs2 m 2 main_v6 c)))) main_v15 (outs2 m 5 main_v15 c))
  rw [outs_v6, outs2_v6, outs_v15, outs2_v15]

/-! ## The regions' records -/

/-- The proof data of the three regions. -/
def pdats : (p : Fin 3) → (c : Dev nD) → Dat τ (Elt F) Unit ℕ (UR sig nD τ) ℕ (cfgs p) c
  | ⟨0, _⟩ => Qkv.dat (V1 m)
  | ⟨1, _⟩ => Flash.dat (V4 m (outs m))
  | ⟨2, _⟩ => Project.dat (V6 m (outs m))

/-- No core owes another anything: no level is assigned. -/
abbrev L : GSem nD τ sig → Finset Unit := fun _ => ∅
/-- No level is assigned. -/
abbrev lv : GSem nD τ sig → Unit → ℕ := fun _ _ => 0

/-- What rides beside the buffers between two items: the random-number register, and nothing owed. -/
abbrev R (c : Dev nD) : sProp 𝕄 := iprop((∃ r, prngReg c r) ∗ ∃ W, owes (c : Thread nD τ) (0 : CellTallies nD τ sig Unit) W)

set_option backward.isDefEq.respectTransparency.types false in
/-- A region between two valuations of the unscoped buffers: entered at `W`, left at `W'`, which has its arrays as the proof
    data leave them and agrees with `W` elsewhere. -/
def region (p : Fin 3) (kit : Pipeline.LaunchFacts₀ (nD := nD) (τ := τ) cfgs p)
    (hbody : ∀ c, Pipeline.BodyObligation (pdats m p c) (defs₀ (F := F)) Variants.none () Set.univ)
    (howed : ∀ c t, (pdats m p c).owed t = 0) (hrec : ∀ c, (pdats m p c).recorded 0 = Set.univ)
    (hΦ : ∀ c t, (pdats m p c).Φ t = iprop(Pipeline.scopedRest (Ix := Unit) (Name := ℕ) (U := UR sig nD τ) (Lvl := ℕ)
      (Val := Elt F) (cfgs p).spec c ∗ ∃ r, prngReg c r))
    (hq : ∀ c w, ((cfgs p).spec w).isOut = false → (pdats m p c).q w = Pipeline.shareOf (cfgs p).spec w)
    (W W' : Dev nD → Valuation τ sig (Elt F))
    (hA : ∀ c w, (pdats m p c).A w = W c (Proc.devRef .tc (Pipeline.arrRef (cfgs p).spec w)))
    (hF : ∀ c w, (pdats m p c).arrAt w (cfgs p).N = W' c (Proc.devRef .tc (Pipeline.arrRef (cfgs p).spec w)))
    (hrest : ∀ c (b : Ref sig .tc), b ∉ Finset.univ.image (Pipeline.arrRef (cfgs p).spec) → W' c (Proc.devRef .tc b) = W c (Proc.devRef .tc b)) :
    RegionSeg (pcfgs (F := F)) adm (pdats m) () defs₀ Variants.none L lv p where
  win := kit.win
  block_pos := kit.block_pos
  stage_whole := kit.stage_whole
  K := PEmpty
  osem k := k.elim
  ho := Pipeline.OwnSemFacts.none _
  hbody c := (hbody c).loose
  hwaits := Pipeline.hwaits_of_owed_zero _ _ _ _ L lv p fun c t => howed c t
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => W c (Proc.devRef .tc b))
  hentry c := by
    rw [Pipeline.ownSems0_none]
    have hsplit := Pipeline.arrays_of_unscopedBufs_shared (p := p) (pcfgs (F := F)) adm (pdats m) kit.win kit.sharedIn kit.arr_whole c
      (hq c) (fun b => W c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c]
      icases HO with ⟨%W₀, HO⟩; iexists W₀; isplitr; · ipureintro; exact fun _ _ => Or.inl trivial
      iexact HO
    isplitl [Hp]; · iexact Hp
    iexact Hrest
  hin c := by
    rw [hΦ c 0]
    iintro ⟨Hp, -, Hr⟩
    isplitl [Hr]; · iexact Hr
    iexact Hp
  hout c := by
    rw [Pipeline.ownSems0_none, hΦ c (Fin.last _)]
    iintro ⟨Hr, Hp⟩
    isplitl [Hp]; · iexact Hp
    isplitr; · iempintro
    iexact Hr
  hexit c := by
    have hjoin := Pipeline.unscopedBufs_of_arrays_shared (p := p) (pcfgs (F := F)) adm (Ix := Unit) (Name := ℕ) (U := UR sig nD τ) (Lvl := ℕ)
      kit.win kit.sharedIn kit.arr_whole c (pdats m) (hq c)
      (fun b => W c (Proc.devRef .tc b)) (fun b => W' c (Proc.devRef .tc b)) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W₀, -, HO⟩; iexists W₀; iexact HO

/-- The first region ends with its arrays as the next contents have them. -/
theorem hF0 (c : Dev nD) : ∀ w : Fin cfg0.W, (pdats m 0 c).arrAt w cfg0.N = (V2 m (outs m)) c (Proc.devRef .tc (Pipeline.arrRef spec0 w)) :=
  fun
    | 0 => (((pdats m 0 c).arrAt_in 0 rfl _).trans ((Qkv.A_eq (V1 m) c 0).trans (V2_of m (outs m) c (Pipeline.arrRef spec0 0) (by decide)).symm))
    | 1 => (((pdats m 0 c).arrAt_in 1 rfl _).trans ((Qkv.A_eq (V1 m) c 1).trans (V2_of m (outs m) c (Pipeline.arrRef spec0 1) (by decide)).symm))
    | 2 => (((pdats m 0 c).arrAt_in 2 rfl _).trans ((Qkv.A_eq (V1 m) c 2).trans (V2_of m (outs m) c (Pipeline.arrRef spec0 2) (by decide)).symm))
    | 3 => (((pdats m 0 c).arrAt_in 3 rfl _).trans ((Qkv.A_eq (V1 m) c 3).trans (V2_of m (outs m) c (Pipeline.arrRef spec0 3) (by decide)).symm))
    | 4 => by
      show _ = (V2 m (outs m)) c (Proc.devRef .tc main_v6)
      rw [show (V2 m (outs m)) c (Proc.devRef .tc main_v6) = outs m 2 main_v6 c from Function.update_self .., outs_v6]
      rfl
/-- The first region changes no buffer but its arrays. -/
theorem hrest0 (c : Dev nD) (b : Ref sig .tc) (hb : b ∉ Finset.univ.image (Pipeline.arrRef spec0)) :
    (V2 m (outs m)) c (Proc.devRef .tc b) = (V1 m) c (Proc.devRef .tc b) :=
  V2_of m (outs m) c b fun h => hb (by
    rw [List.mem_singleton.mp h]; exact Finset.mem_image.mpr ⟨4, Finset.mem_univ _, rfl⟩)

set_option backward.isDefEq.respectTransparency.types false in
/-- Region 0's record. -/
def reg0 : RegionSeg (pcfgs (F := F)) adm (pdats m) () defs₀ Variants.none L lv 0 :=
  region m 0 launch0.to₀ (fun c => Qkv.obligation (V1 m) c) (fun _ _ => rfl) (fun _ => rfl) (fun _ _ => rfl)
    (fun _ _ _ => rfl) ((V1 m)) ((V2 m (outs m))) (fun c w => Qkv.A_eq (V1 m) c w) (hF0 m) (hrest0 m)

/-- The second region ends with its arrays as the next contents have them. -/
theorem hF1 (c : Dev nD) : ∀ w : Fin cfg1.W, (pdats m 1 c).arrAt w cfg1.N = (V5 m (outs m)) c (Proc.devRef .tc (Pipeline.arrRef spec1 w)) :=
  fun
    | 0 => (((pdats m 1 c).arrAt_in 0 rfl _).trans ((Flash.A_eq (V4 m (outs m)) c 0).trans (V5_of m (outs m) c (Pipeline.arrRef spec1 0) (by decide)).symm))
    | 1 => (((pdats m 1 c).arrAt_in 1 rfl _).trans ((Flash.A_eq (V4 m (outs m)) c 1).trans (V5_of m (outs m) c (Pipeline.arrRef spec1 1) (by decide)).symm))
    | 2 => (((pdats m 1 c).arrAt_in 2 rfl _).trans ((Flash.A_eq (V4 m (outs m)) c 2).trans (V5_of m (outs m) c (Pipeline.arrRef spec1 2) (by decide)).symm))
    | 3 => (((pdats m 1 c).arrAt_in 3 rfl _).trans ((Flash.A_eq (V4 m (outs m)) c 3).trans (V5_of m (outs m) c (Pipeline.arrRef spec1 3) (by decide)).symm))
    | 4 => by
      show _ = (V5 m (outs m)) c (Proc.devRef .tc main_v15)
      rw [show (V5 m (outs m)) c (Proc.devRef .tc main_v15) = outs m 5 main_v15 c from Function.update_self .., outs_v15]
      unfold attended; rw [← V4_outs]; rfl
/-- The second region changes no buffer but its arrays. -/
theorem hrest1 (c : Dev nD) (b : Ref sig .tc) (hb : b ∉ Finset.univ.image (Pipeline.arrRef spec1)) :
    (V5 m (outs m)) c (Proc.devRef .tc b) = (V4 m (outs m)) c (Proc.devRef .tc b) :=
  V5_of m (outs m) c b fun h => hb (by
    rw [List.mem_singleton.mp h]; exact Finset.mem_image.mpr ⟨4, Finset.mem_univ _, rfl⟩)

set_option backward.isDefEq.respectTransparency.types false in
/-- Region 1's record. -/
def reg1 : RegionSeg (pcfgs (F := F)) adm (pdats m) () defs₀ Variants.none L lv 1 :=
  region m 1 launch₀1 (fun c => Flash.obligation (V4 m (outs m)) c) (fun _ _ => rfl) (fun _ => rfl) (fun _ _ => rfl)
    (fun _ _ _ => rfl) ((V4 m (outs m))) ((V5 m (outs m))) (fun c w => Flash.A_eq (V4 m (outs m)) c w) (hF1 m) (hrest1 m)

/-- The third region ends with its arrays as the next contents have them. -/
theorem hF2 (c : Dev nD) : ∀ w : Fin cfg2.W, (pdats m 2 c).arrAt w cfg2.N = (V7 m (outs m)) c (Proc.devRef .tc (Pipeline.arrRef spec2 w)) :=
  fun
    | 0 => (((pdats m 2 c).arrAt_in 0 rfl _).trans ((Project.A_eq (V6 m (outs m)) c 0).trans (V7_of m (outs m) c (Pipeline.arrRef spec2 0) (by decide)).symm))
    | 1 => (((pdats m 2 c).arrAt_in 1 rfl _).trans ((Project.A_eq (V6 m (outs m)) c 1).trans (V7_of m (outs m) c (Pipeline.arrRef spec2 1) (by decide)).symm))
    | 2 => by
      show _ = (V7 m (outs m)) c (Proc.devRef .tc main_v17)
      rw [show (V7 m (outs m)) c (Proc.devRef .tc main_v17) = outs m 7 main_v17 c from Function.update_self .., outs_v17]
      unfold result; rw [← V6_outs]; rfl
/-- The third region changes no buffer but its arrays. -/
theorem hrest2 (c : Dev nD) (b : Ref sig .tc) (hb : b ∉ Finset.univ.image (Pipeline.arrRef spec2)) :
    (V7 m (outs m)) c (Proc.devRef .tc b) = (V6 m (outs m)) c (Proc.devRef .tc b) :=
  V7_of m (outs m) c b fun h => hb (by
    rw [List.mem_singleton.mp h]; exact Finset.mem_image.mpr ⟨2, Finset.mem_univ _, rfl⟩)

set_option backward.isDefEq.respectTransparency.types false in
/-- Region 2's record. -/
def reg2 : RegionSeg (pcfgs (F := F)) adm (pdats m) () defs₀ Variants.none L lv 2 :=
  region m 2 launch2.to₀ (fun c => Project.obligation (V6 m (outs m)) c) (fun _ _ => rfl) (fun _ => rfl) (fun _ _ => rfl)
    (fun _ _ _ => rfl) ((V6 m (outs m))) ((V7 m (outs m))) (fun c w => Project.A_eq (V6 m (outs m)) c w) (hF2 m) (hrest2 m)

/-! ## The run -/

/-- What the run leaves: the result at `value`, the arguments as launched, every semaphore counter at zero. -/
def value (c : Dev nD) : Buf (Elt F) ((c : Thread nD τ).loc main_v18) := V8 m (outs m) c (Proc.devRef .tc main_v18)

/-- Core `c`'s part of it, of a final state. -/
def Ends (c : Dev nD) (s : MemSt nD τ sig (Elt F)) : Prop :=
  s.mem ((c.tc : Thread nD τ).loc main_v18) = value m c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)

/-- The same rides beside the buffers at every item. -/
abbrev 𝓔 : Fin 4 → Dev nD → sProp 𝕄 := fun _ => R

set_option backward.isDefEq.respectTransparency.types false in
/-- THE RUN: from any memory with zero counters every weakly fair execution terminates, and every final state is as `Ends`
    says, every counter at zero. -/
theorem run_main : θ_run defs (onTc (τ := τ) (main (F := F))) ⟨m, fun _ => 0, ρ⟩
    (fun r => (∀ c : Dev nD, Ends m c r.2) ∧ r.2.sem = fun _ => 0) :=
  Pipeline.θ_run_regions_kit_dev_sems (pcfgs (F := F)) adm (pdats m) () cellOf_inj emb₁ defs₀ Variants.none L lv m ρ main
    (segs m (outs m) Variants.none L lv 𝓔 () (pdats m) (reg0 m) (reg1 m) (reg2 m))
    (fun c Q => by
      rewrite [main_chain c, Seg.run_eq_chain,
        show (segs m (outs m) Variants.none L lv 𝓔 () (pdats m) (reg0 m) (reg1 m) (reg2 m) c).map Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V8 m (outs m) c))
    (hch := fun c => ⟨.rfl, .rfl, .rfl, .rfl, .rfl, .rfl, .rfl, .rfl, sep_mono .rfl (by
      iintro ⟨-, HO⟩
      iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := Ends m)
    (hfin := fun c s' => by
      unfold StableHlo.held
      iintro ⟨Hh, HSI⟩
      ihave Hr := (pointsTo_read_all (Pipeline.ucRefs τ sig) (fun b => ((c : Thread nD τ).1, b)) (V8 m (outs m) c) s') $$ [Hh HSI]
      · isplitl [Hh] <;> iassumption
      icases Hr with ⟨%h, HSI⟩
      imodintro
      isplitr
      · ipureintro
        exact ⟨h (Proc.devRef .tc main_v18) (Finset.mem_filter.mpr ⟨StableHlo.devRef_mem_tcRefs main_v18, by decide⟩),
          (h (Proc.devRef .tc main_arg0) (Finset.mem_filter.mpr ⟨StableHlo.devRef_mem_tcRefs main_arg0, by decide⟩)).trans (V8_main_arg0 m (outs m) c),
          (h (Proc.devRef .tc main_arg1) (Finset.mem_filter.mpr ⟨StableHlo.devRef_mem_tcRefs main_arg1, by decide⟩)).trans (V8_main_arg1 m (outs m) c),
          (h (Proc.devRef .tc main_arg2) (Finset.mem_filter.mpr ⟨StableHlo.devRef_mem_tcRefs main_arg2, by decide⟩)).trans (V8_main_arg2 m (outs m) c),
          (h (Proc.devRef .tc main_arg3) (Finset.mem_filter.mpr ⟨StableHlo.devRef_mem_tcRefs main_arg3, by decide⟩)).trans (V8_main_arg3 m (outs m) c),
          (h (Proc.devRef .tc main_arg4) (Finset.mem_filter.mpr ⟨StableHlo.devRef_mem_tcRefs main_arg4, by decide⟩)).trans (V8_main_arg4 m (outs m) c),
          (h (Proc.devRef .tc main_arg5) (Finset.mem_filter.mpr ⟨StableHlo.devRef_mem_tcRefs main_arg5, by decide⟩)).trans (V8_main_arg5 m (outs m) c),
          (h (Proc.devRef .tc main_arg6) (Finset.mem_filter.mpr ⟨StableHlo.devRef_mem_tcRefs main_arg6, by decide⟩)).trans (V8_main_arg6 m (outs m) c),
          (h (Proc.devRef .tc main_arg7) (Finset.mem_filter.mpr ⟨StableHlo.devRef_mem_tcRefs main_arg7, by decide⟩)).trans (V8_main_arg7 m (outs m) c)⟩
      · iexact HSI)
    (hQ := fun _ h hz => ⟨h, funext fun g => hz g (.inr (regions_no_unscoped g.2))⟩)

end Cert.Proof.Whole

end
-- ==== Proof.Frames.lean ====
/-
  The three frames, and the constant's claim.

  The kernel and its idealization are one text but for one scalar, which the idealization names. Where the floats are
  words that scalar is its literal, so the run of the idealization at the words is the run of the kernel.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Proof

open Idealize.ShloMosaic Idealize.SL.Sem

/-- Where the floats are words, a named constant is its literal. -/
@[reducible] def literal : Named Bits := ⟨fun _ _ {φ} b => FloatOps.ofBits φ b⟩

attribute [local instance] literal

set_option maxRecDepth 100000

/-! The two programs' parts are the same. -/

theorem body0_eq : @Cert.Kernel.cc0__qkv_body Bits _ _ = @Cert.KernelIdeal.cc0__qkv_body Bits _ _ _ := rfl
/-- The attention's body is the same in both programs. -/
theorem body1_eq : @Cert.Kernel.cc1__flash_body Bits _ _ = @Cert.KernelIdeal.cc1__flash_body Bits _ _ := rfl
/-- The output projection's body is the same in both programs. -/
theorem body2_eq : @Cert.Kernel.cc2__matmul_nt_body Bits _ _ = @Cert.KernelIdeal.cc2__matmul_nt_body Bits _ _ := rfl

set_option maxHeartbeats 4000000 in
/-- All bodies of the two programs are the same. -/
theorem bodies_eq : Cert.Kernel.defs₀ (F := Bits) = Cert.KernelIdeal.defs₀ (F := Bits) := by
  unfold Cert.Kernel.defs₀ Cert.KernelIdeal.defs₀
  refine congrArg _ (funext fun l => ?_)
  match l with
  | ⟨0, _⟩ => funext ⟨t, s⟩; exact rfl
  | ⟨1, _⟩ => funext ⟨t, s⟩; exact rfl
  | ⟨2, _⟩ => funext ⟨t, s⟩; exact rfl

/-- The two programs' pipelines are the same. -/
theorem pipes_eq : Cert.Kernel.pcfgs (F := Bits) = Cert.KernelIdeal.pcfgs (F := Bits) := rfl

/-- The two programs' definitions are the same. -/
theorem defs_eq : Cert.Kernel.defs (F := Bits) = Cert.KernelIdeal.defs (F := Bits) :=
  congrArg (Pipeline.defs (Cert.KernelIdeal.pcfgs (F := Bits))) bodies_eq

/-- The two programs' host code is the same. -/
theorem main_eq : Cert.Kernel.main (F := Bits) = Cert.KernelIdeal.main (F := Bits) := rfl

/-- The kernel's frame. -/
theorem frame_kernel : Cert.quiescent_Kernel := fun m ρ _ => by
  rw [defs_eq, main_eq]
  exact (θ_run (Cert.KernelIdeal.defs (F := Bits)) _ _).mono (fun _ h => ⟨fun c => (h.1 c).2, h.2⟩) (Whole.run_main (F := Bits) m ρ)

/-- The idealization's frame. -/
theorem frame_ideal : Cert.quiescent_KernelIdeal := fun m ρ _ =>
  (θ_run (Cert.KernelIdeal.defs (F := Ideal)) _ _).mono (fun _ h => ⟨fun c => (h.1 c).2, h.2⟩) (Whole.run_main (F := Ideal) m ρ)

/-- The reference's frame: it declares no semaphore. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- The named constant's claim. -/
theorem preserves : Cert.preserves_Kernel_KernelIdeal :=
  IdealRules.named_const.statement Cert.KernelIdeal.κ "qscale" .f32 0x3E0293EE#32 _ rfl

end Cert.Proof

end
-- ==== Proof.Payloads.lean ====
/-
  What the three bodies compute at the ideal instance, element by element.
-/
module

public import proofs.«01_k».proof.Proof.Gen.KernelIdeal.Skeleton
public import Idealize.ShloMosaic.Lib.Pointwise
public import Idealize.ShloMosaic.Lib.Pipeline.Value

@[expose] public section

noncomputable section

namespace Cert.Proof.Payloads

open Cert.KernelIdeal Cert.KernelIdeal.Gen Idealize.ShloMosaic

/-- The output projection's block: rows times rows. -/
theorem product_apply (x w : Vec Ideal S1024x4096 .bf16) (r l : Fin 1024) :
    k2_pay1 x w (ix2 r l) = ∑ k : Fin 4096, x (ix2 r k) * w (ix2 l k) := by
  pointwise [k2_pay1]

/-- The first projection's block, before the rotation: rows times rows. -/
theorem projection_apply (x w : Vec Ideal S1024x4096 .bf16) (r l : Fin 1024) :
    k0_pay1 x w (ix2 r l) = ∑ k : Fin 4096, x (ix2 r k) * w (ix2 l k) := by
  pointwise [k0_pay1]

/-- The weight of key `c` for query `r`: two to the power of their score plus the mask's entry. -/
def weight (q k : Vec Ideal S1024x128 .bf16) (m : Fin 1024 → Fin 1024 → EReal) (r c : Fin 1024) : EReal :=
  Ideal.exp2 ((∑ a : Fin 128, q (ix2 r a) * k (ix2 c a)) + m r c)

/-- A query block that attends to one key block. -/
theorem oneBlock_apply (q k : Vec Ideal S1024x128 .bf16) (tri : Vec Ideal S1x1024x1024 .f32) (v : Vec Ideal S1024x128 .bf16)
    (r : Fin 1024) (d : Fin 128) :
    k1_pay2 q k tri v (ix2 r d)
      = Ideal.div (∑ c : Fin 1024, weight q k (fun r c => tri (ix3 0 r c)) r c * v (ix2 c d))
          (∑ c : Fin 1024, weight q k (fun r c => tri (ix3 0 r c)) r c) := by
  pointwise [k1_pay2, k1_pay1, weight]
  rfl

/-- A query block that attends to two key blocks, the second masked, the first whole. -/
theorem twoBlocks_apply (q k1 : Vec Ideal S1024x128 .bf16) (tri : Vec Ideal S1x1024x1024 .f32)
    (v1 k0 v0 : Vec Ideal S1024x128 .bf16) (r : Fin 1024) (d : Fin 128) :
    k1_pay3 q k1 tri v1 k0 v0 (ix2 r d)
      = Ideal.div ((∑ c : Fin 1024, weight q k1 (fun r c => tri (ix3 0 r c)) r c * v1 (ix2 c d))
            + ∑ c : Fin 1024, weight q k0 (fun _ _ => 0) r c * v0 (ix2 c d))
          ((∑ c : Fin 1024, weight q k1 (fun r c => tri (ix3 0 r c)) r c) + ∑ c : Fin 1024, weight q k0 (fun _ _ => 0) r c) := by
  pointwise [k1_pay3, k1_pay1, weight]
  rfl

/-- The lane half a head away from `l`, in the same head. -/
def swap (l : Fin 1024) : Fin 1024 := ⟨l.val / 128 * 128 + (l.val % 128 + 64) % 128, by omega⟩

/-- The lane `l`'s place in its head. -/
def lane (l : Fin 1024) : Fin 128 := ⟨l.val % 128, Nat.mod_lt _ (by decide)⟩

/-- A row of one head's entries, repeated for the eight heads of a block. -/
theorem heads_apply (cs : Vec Ideal S1024x128 .f32) (r l : Fin 1024) :
    (let x : FVec Ideal S1024x128 .f32 := shapeCast S1024x128 cs shapeCasts_S1024x128_S1024x128
     concatenate S1024x1024 1 [⟨S1024x128, x⟩, ⟨S1024x128, x⟩, ⟨S1024x128, x⟩, ⟨S1024x128, x⟩, ⟨S1024x128, x⟩, ⟨S1024x128, x⟩,
       ⟨S1024x128, x⟩, ⟨S1024x128, x⟩] concatenates_S1024x128_S1024x128_S1024x128_S1024x128_S1024x128_S1024x128_S1024x128_S1024x128_S1024x1024_d1) (ix2 r l)
      = cs (ix2 r (lane l)) := by
  pointwise
  have e : ∀ a : Fin 128, a.val = l.val % 128 → cs (ix2 r a) = cs (ix2 r (lane l)) := fun a h =>
    congrArg (fun b => cs (ix2 r b)) (Fin.ext h)
  have hl := l.isLt
  repeat' split
  all_goals exact e _ (by simp only; omega)

/-- The part of the rotation multiplied by the cosines. -/
theorem cosines_apply (y : FVec Ideal S1024x1024 .f32) (cs : Vec Ideal S1024x128 .f32) (r l : Fin 1024) :
    k0_pay5 y cs (ix2 r l) = y (ix2 r l) * cs (ix2 r (lane l)) := by
  rw [k0_pay5]
  exact congrArg (y (ix2 r l) * ·) (heads_apply cs r l)

/-- Half heads side by side, read at a lane: the piece that holds the lane, at the lane's place in it. -/
theorem halves_apply (L : List (FVec Ideal S1024x64 .f32))
    (h : Shape.Concatenates ((L.map fun x => (⟨S1024x64, x⟩ : (s : Shape) × (s.Idx → EReal))).map (·.1)) S1024x1024 1)
    (r l : Fin 1024) (p : ℕ) (hp : p < L.length) (i : Fin 64) (e : 64 * p + i.val = l.val) :
    concatenate S1024x1024 1 (L.map fun x => (⟨S1024x64, x⟩ : (s : Shape) × (s.Idx → EReal))) h (ix2 r l)
      = L[p] (ix2 r i) := by
  refine concatenate_apply_piece 1 _ h _ p (by simpa using hp) S1024x64 _ (by rw [List.getElem_map]) rfl (64 * p) ?_
    (ix2 r i) (fun b hb => ?_) e
  · rw [← List.map_take, List.map_map, List.map_map]
    have c : ((fun s : Shape => if h : s.rank = S1024x1024.rank then s.size ((1 : Fin S1024x1024.rank).cast h.symm) else 0)
        ∘ (fun q : (s : Shape) × (s.Idx → EReal) => q.1)) ∘ (fun x : FVec Ideal S1024x64 .f32 => ⟨S1024x64, x⟩) = fun _ => 64 := rfl
    rw [Function.comp_assoc, ← Function.comp_assoc, c, List.map_const', List.sum_replicate, List.length_take]
    simp only [smul_eq_mul]
    omega
  · match b, hb with
    | ⟨0, _⟩, _ => rfl
    | ⟨1, _⟩, hb => exact absurd rfl hb

/-- The part of the rotation multiplied by the sines. -/
theorem sines_apply (y : FVec Ideal S1024x1024 .f32) (sn : Vec Ideal S1024x128 .f32) (r l : Fin 1024) :
    k0_pay6 y sn (ix2 r l)
      = (if l.val % 128 < 64 then 0 - y (ix2 r (swap l)) else y (ix2 r (swap l))) * sn (ix2 r (lane l)) := by
  let G : ℕ → EReal := fun n => if h : n < 1024 then
    (if n % 128 < 64 then 0 - y (ix2 r (swap ⟨n, h⟩)) else y (ix2 r (swap ⟨n, h⟩))) else 0
  have neg : ∀ (a : Fin 1024) (n : ℕ), n < 1024 → n % 128 < 64 → a.val = n / 128 * 128 + (n % 128 + 64) % 128 →
      0 - y (ix2 r a) = G n := fun a n h h' ha => by
    simp only [G, dif_pos h, if_pos h']
    exact congrArg (fun b => 0 - y (ix2 r b)) (Fin.ext ha)
  have pos : ∀ (a : Fin 1024) (n : ℕ), n < 1024 → ¬ n % 128 < 64 → a.val = n / 128 * 128 + (n % 128 + 64) % 128 →
      y (ix2 r a) = G n := fun a n h h' ha => by
    simp only [G, dif_pos h, if_neg h']
    exact congrArg (fun b => y (ix2 r b)) (Fin.ext ha)
  have e : G l.val = (if l.val % 128 < 64 then 0 - y (ix2 r (swap l)) else y (ix2 r (swap l))) := by
    simp only [G, dif_pos l.isLt]
  rw [← e, k0_pay6]
  refine congr_arg₂ (· * ·) ?_ (heads_apply sn r l)
  have hl := l.isLt
  obtain ⟨i, p, hp, e⟩ : ∃ (i : Fin 64) (p : ℕ), p < 16 ∧ l.val = 64 * p + i.val :=
    ⟨⟨l.val % 64, by omega⟩, l.val / 64, by omega, by simp only; omega⟩
  refine (halves_apply [_, _, _, _, _, _, _, _, _, _, _, _, _, _, _, _] _ r l p hp i e.symm).trans ?_
  rw [e]
  have hi := i.isLt
  clear e
  interval_cases p <;> simp only [List.getElem_cons_zero, List.getElem_cons_succ] <;> pointwise <;> first
    | exact neg _ _ (by omega) (by omega) (by simp only; omega)
    | exact pos _ _ (by omega) (by omega) (by simp only; omega)

end Cert.Proof.Payloads

end
-- ==== Proof.QkvValue.lean ====
/-
  What the first call leaves in its array: the projected queries, keys and values, the queries and keys rotated, the
  queries scaled besides.
-/
module

public import proofs.«01_k».proof.Proof.Region0
public import proofs.«01_k».proof.Proof.Payloads
public import Idealize.ShloMosaic.Lib.Pipeline.ValueKit

@[expose] public section

noncomputable section

namespace Cert.Proof.Qkv

open Cert.KernelIdeal Cert.KernelIdeal.Gen
open Idealize.ShloMosaic Idealize.ShloMosaic.TcCoe
open Idealize.ShloMosaic.Pipeline (Dat Cfg Window)

variable (V : Dev nD → Valuation τ sig (Elt Ideal)) (c : Dev nD)

/-- The factor of a query: one over the root of the head's width and over the logarithm of two. -/
def queryScale : EReal := (((Real.sqrt 128)⁻¹ * (Real.log 2)⁻¹ : ℝ) : EReal)

/-- The column half a head away, in the same head. -/
def swap (n : Fin 6144) : Fin 6144 := ⟨n.val / 128 * 128 + (n.val % 128 + 64) % 128, by omega⟩

/-- A column's place in its head. -/
def lane (n : Fin 6144) : Fin 128 := ⟨n.val % 128, Nat.mod_lt _ (by decide)⟩

/-- A row of the hidden states times a row of the stacked weights. -/
def linear (x : Vec Ideal S2048x4096 .bf16) (w : Vec Ideal S6144x4096 .bf16) (s : Fin 2048) (n : Fin 6144) : EReal :=
  ∑ k : Fin 4096, x (ix2 s k) * w (ix2 n k)

/-- The rotated product. -/
def rotated (x : Vec Ideal S2048x4096 .bf16) (w : Vec Ideal S6144x4096 .bf16) (cs sn : Vec Ideal S2048x128 .f32)
    (s : Fin 2048) (n : Fin 6144) : EReal :=
  linear x w s n * cs (ix2 s (lane n))
    + (if n.val % 128 < 64 then 0 - linear x w s (swap n) else linear x w s (swap n)) * sn (ix2 s (lane n))

/-- Queries rotated and scaled, keys rotated, values plain. -/
def heads (x : Vec Ideal S2048x4096 .bf16) (w : Vec Ideal S6144x4096 .bf16) (cs sn : Vec Ideal S2048x128 .f32) :
    FVec Ideal S2048x6144 .bf16 := fun j =>
  if (j 1).val < 5120 then rotated x w cs sn (j 0) (j 1) * (if (j 1).val < 4096 then queryScale else 1)
  else linear x w (j 0) (j 1)

/-- A grid point reads the hidden states of its rows. -/
theorem hidden_index : ∀ t : Fin cfg0.N, win0_0.index t = ![(grid0.coords t 0).val, 0] :=
  (by decide +kernel : ∀ t : Fin grid0.N, _)
/-- It reads the weights of its columns. -/
theorem weight_index : ∀ t : Fin cfg0.N, win0_1.index t = ![(grid0.coords t 1).val, 0] :=
  (by decide +kernel : ∀ t : Fin grid0.N, _)
/-- It reads the cosines of its rows. -/
theorem cos_index : ∀ t : Fin cfg0.N, win0_2.index t = ![(grid0.coords t 0).val, 0] :=
  (by decide +kernel : ∀ t : Fin grid0.N, _)
/-- It reads the sines of its rows. -/
theorem sin_index : ∀ t : Fin cfg0.N, win0_3.index t = ![(grid0.coords t 0).val, 0] :=
  (by decide +kernel : ∀ t : Fin grid0.N, _)
/-- It writes the result's block of its rows and columns. -/
theorem heads_index : ∀ t : Fin cfg0.N, win0_4.index t = ![(grid0.coords t 0).val, (grid0.coords t 1).val] :=
  (by decide +kernel : ∀ t : Fin grid0.N, _)

/-- The conditional takes the rotating branch in the first five of the six column blocks. -/
theorem rotates_iff : ∀ a : Fin 6,
    (Scalar.cmpi .ne (Scalar.extui (Scalar.cmpi .slt (Scalar.muli (BitVec.ofNat 32 a.val) 8#32) 40#32) : BitVec 32) 0#32 = 1#1)
      ↔ a.val < 5 := by decide

/-- The queries are the first four of the six column blocks. -/
theorem isQuery_iff : ∀ a : Fin 6,
    (Scalar.cmpi .slt (Scalar.muli (BitVec.ofNat 32 a.val) 8#32) 32#32 = 1#1) ↔ a.val < 4 := by decide

/-- The factor a column block is multiplied by. -/
theorem factor (a : Fin 6) :
    k0_pay4 (F := Ideal) (BitVec.ofNat 32 a.val) = if a.val < 4 then queryScale else 1 := by
  rw [k0_pay4]
  have e : (Named.named κ "qscale" 0x3E0293EE#32 : Ideal .f32) = queryScale :=
    IdealRules.named_const.ideal_named_scalar _ _ _ _ rfl
  have o : (Scalar.ofBits .f32 0x3F800000#32 : Ideal .f32) = (1 : EReal) := Ideal.ofBits_one_f32
  rw [e, o]
  exact if_congr (isQuery_iff a) rfl rfl

/-- One element of what a grid point computes. -/
theorem out_apply (i : grid0.Coords) (x w : Vec Ideal S1024x4096 .bf16) (cs sn : Vec Ideal S1024x128 .f32) (r l : Fin 1024) :
    out i x w cs sn (ix2 r l) =
      if (i 1).val < 5 then
        (k0_pay1 x w (ix2 r l) * cs (ix2 r (Payloads.lane l))
          + (if l.val % 128 < 64 then 0 - k0_pay1 x w (ix2 r (Payloads.swap l)) else k0_pay1 x w (ix2 r (Payloads.swap l)))
            * sn (ix2 r (Payloads.lane l))) * (if (i 1).val < 4 then queryScale else 1)
      else k0_pay1 x w (ix2 r l) := by
  unfold out
  rw [k0_pay3]
  have h : (rotates i = 1#1) ↔ (i 1).val < 5 := rotates_iff (i 1)
  by_cases hi : (i 1).val < 5
  · rw [if_pos hi, if_pos (h.mpr hi), ← Payloads.cosines_apply, ← Payloads.sines_apply, k0_pay2]
    exact congrArg (_ * ·) (factor (i 1))
  · rw [if_neg hi, if_neg (fun e => hi (h.mp e))]
    rfl

/-- The first call leaves in its array the queries rotated and scaled, the keys rotated, and the values. -/
theorem array : (dat V c).arrAt 4 cfg0.N
    = heads (V c (Proc.devRef .tc main_v1)) (V c (Proc.devRef .tc main_v3)) (V c (Proc.devRef .tc main_v4))
        (V c (Proc.devRef .tc main_v5)) := by
  refine (dat V c).arrAt_eq_of_covers 4 _ (by decide +kernel) fun t hf y => ?_
  blk_simp
  rw [after_4]
  obtain ⟨r, l, rfl⟩ : ∃ r l : Fin 1024, y = ix2 r l := ⟨_, _, eq_ix2 y⟩
  refine (out_apply _ _ _ _ _ _ _).trans ?_
  generalize hj : (win0_4.blk t).view.emb (ix2 r l) = j
  have h0 : (j 0).val = (grid0.coords t 0).val * 1024 + r.val := by
    rw [← hj]; blk_simp [heads_index]
  have h1 : (j 1).val = (grid0.coords t 1).val * 1024 + l.val := by
    rw [← hj]; blk_simp [heads_index]
  have hr := r.isLt
  have hl := l.isLt
  have linear_at : ∀ l' : Fin 1024, ∀ n : Fin 6144, n.val = (grid0.coords t 1).val * 1024 + l'.val →
      k0_pay1 (blockAt V c 0 t) (blockAt V c 1 t) (ix2 r l')
        = linear (V c (Proc.devRef .tc main_v1)) (V c (Proc.devRef .tc main_v3)) (j 0) n := fun l' n hn => by
    refine (Payloads.projection_apply _ _ _ _).trans (Finset.sum_congr rfl fun k _ => ?_)
    refine congr_arg₂ (· * ·) (congrArg (V c (Proc.devRef .tc main_v1)) ?_) (congrArg (V c (Proc.devRef .tc main_v3)) ?_)
    · blk_ext [hidden_index, h0]
    · blk_ext [weight_index, hn]
  have cos_at : blockAt V c 2 t (ix2 r (Payloads.lane l)) = V c (Proc.devRef .tc main_v4) (ix2 (j 0) (lane (j 1))) := by
    refine congrArg (V c (Proc.devRef .tc main_v4)) ?_
    blk_ext [cos_index, h0, Payloads.lane, lane, h1]
  have sin_at : blockAt V c 3 t (ix2 r (Payloads.lane l)) = V c (Proc.devRef .tc main_v5) (ix2 (j 0) (lane (j 1))) := by
    refine congrArg (V c (Proc.devRef .tc main_v5)) ?_
    blk_ext [sin_index, h0, Payloads.lane, lane, h1]
  have p : ((j 1).val < 5120) = ((grid0.coords t 1).val < 5) := propext (by omega)
  have q : ((j 1).val < 4096) = ((grid0.coords t 1).val < 4) := propext (by omega)
  have o : ((j 1).val % 128 < 64) = (l.val % 128 < 64) := propext (by omega)
  unfold heads rotated
  simp only [p, q, o]
  rw [linear_at l (j 1) h1, linear_at (Payloads.swap l) (swap (j 1)) (by simp only [Payloads.swap, swap]; omega)]
  rw [cos_at, sin_at]

end Cert.Proof.Qkv

end
-- ==== Proof.FlashValue.lean ====
/-
  What the attention call leaves in its array: for a query of the first half, the average of the first half of the
  values; for a query of the second half, of all of them; each value weighted by two to the power of its masked score.
-/
module

public import proofs.«01_k».proof.Proof.Region1
public import proofs.«01_k».proof.Proof.Payloads
public import Idealize.ShloMosaic.Lib.Pipeline.ValueKit

@[expose] public section

noncomputable section

namespace Cert.Proof.Flash

open Cert.KernelIdeal Cert.KernelIdeal.Gen
open Idealize.ShloMosaic Idealize.ShloMosaic.TcCoe
open Idealize.ShloMosaic.Pipeline (Dat Cfg Window)

variable (V : Dev nD → Valuation τ sig (Elt Ideal)) (c : Dev nD)

/-- The columns of a head's queries. -/
def queryCol (h : Fin 32) (a : Fin 128) : Fin 6144 := ⟨h.val * 128 + a.val, by omega⟩
/-- The columns of the keys that a head's group shares. -/
def keyCol (h : Fin 32) (a : Fin 128) : Fin 6144 := ⟨4096 + h.val / 4 * 128 + a.val, by omega⟩
/-- The columns of the values that a head's group shares. -/
def valueCol (h : Fin 32) (a : Fin 128) : Fin 6144 := ⟨5120 + h.val / 4 * 128 + a.val, by omega⟩

/-- The head of a column of the result. -/
def head (n : Fin 4096) : Fin 32 := ⟨n.val / 128, by omega⟩
/-- The lane of a column of the result. -/
def lane (n : Fin 4096) : Fin 128 := ⟨n.val % 128, Nat.mod_lt _ (by decide)⟩

/-- A row of the first half. -/
def lower (a : Fin 1024) : Fin 2048 := ⟨a.val, by omega⟩
/-- A row of the second half. -/
def upper (a : Fin 1024) : Fin 2048 := ⟨1024 + a.val, by omega⟩
/-- A row's place in its half. -/
def place (s : Fin 2048) : Fin 1024 := ⟨s.val % 1024, Nat.mod_lt _ (by decide)⟩

/-- The score of the key at row `b` for the query at row `s`. -/
def score (A : Vec Ideal S2048x6144 .bf16) (h : Fin 32) (s b : Fin 2048) : EReal :=
  ∑ a : Fin 128, A (ix2 s (queryCol h a)) * A (ix2 b (keyCol h a))

/-- The attention, as the call computes it. -/
def attention (A : Vec Ideal S2048x6144 .bf16) (tri : Vec Ideal S1x1024x1024 .f32) (s : Fin 2048) (h : Fin 32) (d : Fin 128) : EReal :=
  if s.val < 1024 then
    Ideal.div
      (∑ b : Fin 1024, Ideal.exp2 (score A h s (lower b) + tri (ix3 0 (place s) b)) * A (ix2 (lower b) (valueCol h d)))
      (∑ b : Fin 1024, Ideal.exp2 (score A h s (lower b) + tri (ix3 0 (place s) b)))
  else
    Ideal.div
      ((∑ b : Fin 1024, Ideal.exp2 (score A h s (upper b) + tri (ix3 0 (place s) b)) * A (ix2 (upper b) (valueCol h d)))
        + ∑ b : Fin 1024, Ideal.exp2 (score A h s (lower b) + 0) * A (ix2 (lower b) (valueCol h d)))
      ((∑ b : Fin 1024, Ideal.exp2 (score A h s (upper b) + tri (ix3 0 (place s) b)))
        + ∑ b : Fin 1024, Ideal.exp2 (score A h s (lower b) + 0))

/-- A grid point reads the query block of its rows and its head. -/
theorem query_index : ∀ t : Fin cfg1.N, win1_0.index t = ![(grid1.coords t 1).val, (grid1.coords t 0).val] :=
  (by decide +kernel : ∀ t : Fin grid1.N, _)
/-- It reads all the keys of its head's group. -/
theorem key_index : ∀ t : Fin cfg1.N, win1_1.index t = ![0, 32 + (grid1.coords t 0).val / 4] :=
  (by decide +kernel : ∀ t : Fin grid1.N, _)
/-- It reads all the values of its head's group. -/
theorem value_index : ∀ t : Fin cfg1.N, win1_2.index t = ![0, 40 + (grid1.coords t 0).val / 4] :=
  (by decide +kernel : ∀ t : Fin grid1.N, _)
/-- Every grid point reads the one triangular mask. -/
theorem mask_index : ∀ t : Fin cfg1.N, win1_3.index t = ![0, 0, 0] :=
  (by decide +kernel : ∀ t : Fin grid1.N, _)
/-- It writes the result's block of its rows and its head. -/
theorem result_index : ∀ t : Fin cfg1.N, win1_4.index t = ![(grid1.coords t 1).val, (grid1.coords t 0).val] :=
  (by decide +kernel : ∀ t : Fin grid1.N, _)

/-- The first branch is taken exactly at the first query block. -/
theorem first_iff (i : grid1.Coords) : (k1_cond1 i = 1#1) ↔ (i 1).val = 0 := by
  unfold k1_cond1
  generalize i 1 = j
  revert j
  change ∀ j : Fin 2, _
  decide

/-- An entry of the first half of the keys or values is the whole array's at the same row. -/
theorem firstHalf_apply (k : Vec Ideal S2048x128 .bf16) (r : Fin 1024) (a : Fin 128) :
    firstHalf k (ix2 r a) = k (ix2 (lower r) a) := by
  pointwise [firstHalf]
  rfl

/-- An entry of the second half is the whole array's 1024 rows further on. -/
theorem secondHalf_apply (k : Vec Ideal S2048x128 .bf16) (r : Fin 1024) (a : Fin 128) :
    secondHalf k (ix2 r a) = k (ix2 (upper r) a) := by
  pointwise [secondHalf]
  rfl

/-- What a grid point computes of a query's row, its blocks being the parts of the whole arrays that belong to the row's head. -/
theorem out_at (A : Vec Ideal S2048x6144 .bf16) (tri m : Vec Ideal S1x1024x1024 .f32) (i : grid1.Coords)
    (q : Vec Ideal S1024x128 .bf16) (k v : Vec Ideal S2048x128 .bf16) (r : Fin 1024) (l : Fin 128)
    (s : Fin 2048) (h : Fin 32) (d : Fin 128)
    (query_at : ∀ a : Fin 128, q (ix2 r a) = A (ix2 s (queryCol h a)))
    (key_at : ∀ (b : Fin 2048) (a : Fin 128), k (ix2 b a) = A (ix2 b (keyCol h a)))
    (value_at : ∀ b : Fin 2048, v (ix2 b l) = A (ix2 b (valueCol h d)))
    (mask_at : ∀ b : Fin 1024, m (ix3 0 r b) = tri (ix3 0 (place s) b))
    (first : s.val < 1024 ↔ (i 1).val = 0) :
    out i q k v m (ix2 r l) = attention A tri s h d := by
  have k0 := fun b a => (firstHalf_apply k b a).trans (key_at _ a)
  have v0 := fun b => (firstHalf_apply v b l).trans (value_at _)
  have k1 := fun b a => (secondHalf_apply k b a).trans (key_at _ a)
  have v1 := fun b => (secondHalf_apply v b l).trans (value_at _)
  unfold out attention
  generalize firstHalf k = K0 at k0 ⊢
  generalize firstHalf v = V0 at v0 ⊢
  generalize secondHalf k = K1 at k1 ⊢
  generalize secondHalf v = V1 at v1 ⊢
  by_cases f : (i 1).val = 0
  · rw [if_pos ((first_iff _).mpr f), if_pos (first.mpr f)]
    refine (Payloads.oneBlock_apply _ _ _ _ _ _).trans ?_
    simp only [Payloads.weight, query_at, k0, v0, mask_at, score]
  · rw [if_neg (fun e => f ((first_iff _).mp e)), if_neg (fun e => f (first.mp e))]
    refine (Payloads.twoBlocks_apply _ _ _ _ _ _ _ _).trans ?_
    simp only [Payloads.weight, query_at, k0, v0, k1, v1, mask_at, score]

/-- The second call leaves in its array, at every row and column, the attention of that row, head and lane. -/
theorem array : (dat V c).arrAt 4 cfg1.N
    = fun j => attention (V c (Proc.devRef .tc main_v6)) (V c (Proc.devRef .tc main_v14)) (j 0) (head (j 1)) (lane (j 1)) := by
  refine (dat V c).arrAt_eq_of_covers 4 _ (by decide +kernel) fun t hf y => ?_
  blk_simp
  rw [after_4]
  obtain ⟨r, l, rfl⟩ : ∃ (r : Fin 1024) (l : Fin 128), y = ix2 r l := ⟨_, _, eq_ix2 y⟩
  generalize hj : (win1_4.blk t).view.emb (ix2 r l) = j
  have h0 : (j 0).val = (grid1.coords t 1).val * 1024 + r.val := by
    rw [← hj]; blk_simp [result_index]
  have h1 : (j 1).val = (grid1.coords t 0).val * 128 + l.val := by
    rw [← hj]; blk_simp [result_index]
  have hr := r.isLt
  have hl := l.isLt
  have hq := (grid1.coords t 1).isLt
  have hh : (head (j 1)).val = (grid1.coords t 0).val := by simp only [head]; omega
  have query_at : ∀ a : Fin 128, blockAt V c 0 t (ix2 r a)
      = V c (Proc.devRef .tc main_v6) (ix2 (j 0) (queryCol (head (j 1)) a)) := fun a => by
    refine congrArg (V c (Proc.devRef .tc main_v6)) ?_
    blk_ext [query_index, h0, queryCol, hh]
  have key_at : ∀ (b : Fin 2048) (a : Fin 128), blockAt V c 1 t (ix2 b a)
      = V c (Proc.devRef .tc main_v6) (ix2 b (keyCol (head (j 1)) a)) := fun b a => by
    refine congrArg (V c (Proc.devRef .tc main_v6)) ?_
    blk_ext [key_index, keyCol, hh]
  have value_at : ∀ b : Fin 2048, blockAt V c 2 t (ix2 b l)
      = V c (Proc.devRef .tc main_v6) (ix2 b (valueCol (head (j 1)) (lane (j 1)))) := fun b => by
    refine congrArg (V c (Proc.devRef .tc main_v6)) ?_
    blk_ext [value_index, valueCol, hh, lane, h1]
  have mask_at : ∀ b : Fin 1024, blockAt V c 3 t (ix3 0 r b)
      = V c (Proc.devRef .tc main_v14) (ix3 0 (place (j 0)) b) := fun b => by
    refine congrArg (V c (Proc.devRef .tc main_v14)) ?_
    blk_ext [mask_index, place, h0]
  exact out_at _ _ _ _ _ _ _ _ _ _ _ _ query_at key_at value_at mask_at
    (by have : (grid1.coords t 1).val < 2 := hq; omega)

end Cert.Proof.Flash

end
-- ==== Proof.ProjectValue.lean ====
/-
  What the output projection leaves in its array: every entry the product of a row of its left operand with a row of
  its right one.
-/
module

public import proofs.«01_k».proof.Proof.Region2
public import proofs.«01_k».proof.Proof.Payloads
public import Idealize.ShloMosaic.Lib.Pipeline.ValueKit

@[expose] public section

noncomputable section

namespace Cert.Proof.Project

open Cert.KernelIdeal Cert.KernelIdeal.Gen
open Idealize.ShloMosaic Idealize.ShloMosaic.TcCoe
open Idealize.ShloMosaic.Pipeline (Dat Cfg Window)

variable (V : Dev nD → Valuation τ sig (Elt Ideal)) (c : Dev nD)

/-- Rows of the left operand times rows of the right one. -/
def product (x : Vec Ideal S2048x4096 .bf16) (w : Vec Ideal S4096x4096 .bf16) : FVec Ideal S2048x4096 .f32 :=
  fun j => ∑ k : Fin 4096, x (ix2 (j 0) k) * w (ix2 (j 1) k)

/-- A grid point reads the left operand's rows of its block row. -/
theorem left_index : ∀ t : Fin cfg2.N, win2_0.index t = ![(grid2.coords t 0).val, 0] :=
  (by decide +kernel : ∀ t : Fin grid2.N, _)
/-- It reads the right operand's rows of its block column. -/
theorem right_index : ∀ t : Fin cfg2.N, win2_1.index t = ![(grid2.coords t 1).val, 0] :=
  (by decide +kernel : ∀ t : Fin grid2.N, _)
/-- It writes the result's block at its block row and column. -/
theorem result_index : ∀ t : Fin cfg2.N, win2_2.index t = ![(grid2.coords t 0).val, (grid2.coords t 1).val] :=
  (by decide +kernel : ∀ t : Fin grid2.N, _)

/-- The third call leaves in its array the product of its two operands. -/
theorem array : (dat V c).arrAt 2 cfg2.N
    = product (V c (Proc.devRef .tc main_v15)) (V c (Proc.devRef .tc main_v16)) := by
  refine (dat V c).arrAt_eq_of_covers 2 _ (by decide +kernel) fun t hf y => ?_
  blk_simp
  rw [after_2]
  refine (congrArg _ (eq_ix2 y)).trans ((Payloads.product_apply _ _ _ _).trans (Finset.sum_congr rfl fun k _ => ?_))
  refine congr_arg₂ (· * ·) (congrArg (V c (Proc.devRef .tc main_v15)) ?_) (congrArg (V c (Proc.devRef .tc main_v16)) ?_)
  · blk_ext [left_index, result_index]
  · blk_ext [right_index, result_index]

end Cert.Proof.Project

end
-- ==== Proof.RefValue.lean ====
/-
  The reference read at an index: projections, rotary embedding, scores, masked scores, their softmax and the average of
  the values, and the output projection.
-/
module

public import proofs.«01_k».proof.Proof.Gen.ReferenceIdeal.Read
public import Idealize.ShloMosaic.Lib.Pointwise

@[expose] public section

noncomputable section

namespace Cert.Proof.Ref

open Cert.ReferenceIdeal Cert.ReferenceIdeal.Gen Cert.ReferenceIdeal.Read
open Idealize.ShloMosaic Idealize.ShloMosaic.TcCoe

variable (x0 : Vec Ideal S1x2048x4096 .f32) (x1 x2 : Vec Ideal S1x2048x128 .f32) (x3 : Vec Ideal S1x1x2048x2048 .f32)
  (x4 : Vec Ideal S4096x4096 .f32) (x5 x6 : Vec Ideal S1024x4096 .f32) (x7 : Vec Ideal S4096x4096 .f32)

/-- The column of a projection that holds a head's lane. -/
def col (h : Fin 32) (a : Fin 128) : Fin 4096 := ⟨h.val * 128 + a.val, by omega⟩
/-- The column of a key or value projection that holds a group's lane. -/
def groupCol (g : Fin 8) (a : Fin 128) : Fin 1024 := ⟨g.val * 128 + a.val, by omega⟩

/-- The group of four heads that shares keys and values. -/
def group (h : Fin 32) : Fin 8 := ⟨h.val / 4, by omega⟩

/-- The head of a column of the joined heads. -/
def head (n : Fin 4096) : Fin 32 := ⟨n.val / 128, by omega⟩
/-- The lane of a column of the joined heads. -/
def lane (n : Fin 4096) : Fin 128 := ⟨n.val % 128, Nat.mod_lt _ (by decide)⟩

/-- The lane half a head away. -/
def across (a : Fin 128) : Fin 128 := ⟨(a.val + 64) % 128, Nat.mod_lt _ (by decide)⟩

/-- A token's hidden state times one row of weights. -/
def query (h : Fin 32) (s : Fin 2048) (a : Fin 128) : EReal := ∑ k : Fin 4096, x0 (ix3 0 s k) * x4 (ix2 (col h a) k)
/-- The same for a group's keys, and for its values. -/
def key (g : Fin 8) (s : Fin 2048) (a : Fin 128) : EReal := ∑ k : Fin 4096, x0 (ix3 0 s k) * x5 (ix2 (groupCol g a) k)

/-- A head's row with the rotary embedding applied. -/
def rotate (y : Fin 128 → EReal) (s : Fin 2048) (a : Fin 128) : EReal :=
  y a * x1 (ix3 0 s a) + (if a.val < 64 then -y (across a) else y (across a)) * x2 (ix3 0 s a)

/-- The score of the key at row `b` for the query at row `s`. -/
def score (h : Fin 32) (s b : Fin 2048) : EReal :=
  ∑ a : Fin 128, rotate x1 x2 (query x0 x4 h s) s a * rotate x1 x2 (key x0 x5 (group h) b) b a

/-- The softmax's argument: the score over the root of the head's width where the key is no later than the query, and
    minus infinity elsewhere. -/
def logit (h : Fin 32) (s b : Fin 2048) : EReal :=
  if b ≤ s then Ideal.div (score x0 x1 x2 x4 x5 h s b) (Ideal.sqrt ((128 : ℝ) : EReal)) else ⊥

/-- The average of `v` with the softmax of `z` as weights. -/
def softmaxAverage {n : ℕ} (z v : Fin n → EReal) : EReal :=
  ∑ b, Ideal.div (Ideal.exp (z b - Finset.univ.sup z)) (∑ b', Ideal.exp (z b' - Finset.univ.sup z)) * v b

/-- The attention's result for one token, head and lane. -/
def attended (h : Fin 32) (s : Fin 2048) (a : Fin 128) : EReal :=
  softmaxAverage (logit x0 x1 x2 x4 x5 h s) fun b => key x0 x6 (group h) b a

/-- The reference's query projection, split into heads. -/
theorem queries_apply (h : Fin 32) (s : Fin 2048) (a : Fin 128) :
    val_main_v3 (F := Ideal) x0 x4 (ix4 0 h s a) = query x0 x4 h s a := by
  pointwise [val_main_v3, val_main_v2, val_main_v1, val_main_v0]
  rfl

/-- The reference's key projection, split into groups. -/
theorem keys_apply (g : Fin 8) (s : Fin 2048) (a : Fin 128) :
    val_main_v7 (F := Ideal) x0 x5 (ix4 0 g s a) = key x0 x5 g s a := by
  pointwise [val_main_v7, val_main_v6, val_main_v5, val_main_v4]
  rfl

/-- The reference's value projection, split into groups. -/
theorem values_apply (g : Fin 8) (s : Fin 2048) (a : Fin 128) :
    val_main_v11 (F := Ideal) x0 x6 (ix4 0 g s a) = key x0 x6 g s a := by
  pointwise [val_main_v11, val_main_v10, val_main_v9, val_main_v8]
  rfl

/-- The two halves of a row exchanged, the half that comes first negated. -/
theorem exchanged (y : Fin 128 → EReal) (a : Fin 128) :
    (if h : a.val < 64 then -y ⟨64 + a.val, by omega⟩ else y ⟨a.val - 64, by omega⟩)
      = if a.val < 64 then -y (across a) else y (across a) := by
  by_cases h : a.val < 64
  · rw [dif_pos h, if_pos h]
    congr 2
    apply Fin.ext
    show 64 + a.val = (a.val + 64) % 128
    omega
  · rw [dif_neg h, if_neg h]
    congr 1
    apply Fin.ext
    show a.val - 64 = (a.val + 64) % 128
    omega

/-- The reference's rotary embedding of the queries. -/
theorem rotatedQueries_apply (h : Fin 32) (s : Fin 2048) (a : Fin 128) :
    val_main_v22 (F := Ideal) x0 x1 x2 x4 (ix4 0 h s a) = rotate x1 x2 (query x0 x4 h s) s a := by
  pointwise [val_main_v22, val_main_v21, val_main_v20, val_main_v19, val_main_v18, val_main_v17, val_main_v16, val_main_v15,
    val_main_v14, val_main_v13, val_main_v12, Value.fn_main_v19]
  simp only [queries_apply]
  rw [exchanged]
  rfl

/-- The reference's rotary embedding of the keys. -/
theorem rotatedKeys_apply (g : Fin 8) (s : Fin 2048) (a : Fin 128) :
    val_main_v31 (F := Ideal) x0 x1 x2 x5 (ix4 0 g s a) = rotate x1 x2 (key x0 x5 g s) s a := by
  pointwise [val_main_v31, val_main_v30, val_main_v29, val_main_v28, val_main_v27, val_main_v26, val_main_v25, val_main_v24,
    val_main_v23, val_main_v13, val_main_v12, Value.fn_main_v28]
  simp only [keys_apply]
  rw [exchanged]
  rfl

/-- The reference's products of queries and repeated keys are the scores. -/
theorem scores_apply (h : Fin 32) (s b : Fin 2048) :
    val_main_v36 (F := Ideal) x0 x1 x2 x4 x5 (ix4 0 h s b) = score x0 x1 x2 x4 x5 h s b := by
  pointwise [val_main_v36, val_main_v33, val_main_v32]
  simp only [rotatedQueries_apply, rotatedKeys_apply]
  rfl

/-- The reference's repeated values: each head has its group's. -/
theorem sharedValues_apply (h : Fin 32) (s : Fin 2048) (a : Fin 128) :
    val_main_v35 (F := Ideal) x0 x6 (ix4 0 h s a) = key x0 x6 (group h) s a := by
  pointwise [val_main_v35, val_main_v34]
  exact values_apply x0 x6 (group h) s a

/-- The literal for minus infinity is minus infinity. -/
theorem negative_infinity : Ideal.ofBits .f32 0xFF800000#32 = (⊥ : EReal) := by
  simp [Ideal.ofBits, Ideal.ieee, -EReal.coe_mul]

/-- The literal 128 is the number 128. -/
theorem width : Ideal.ofBits .f32 0x43000000#32 = ((128 : ℝ) : EReal) := by
  simp [Ideal.ofBits, Ideal.ieee, -EReal.coe_mul]; norm_num

/-- Small numbers are ordered as their words are. -/
theorem notLess (a b : ℕ) (ha : a < 2 ^ 31) (hb : b < 2 ^ 31) :
    (IntOp.cmpi CmpIPredicate.sge (BitVec.ofNat 32 a) (BitVec.ofNat 32 b) = 1#1) ↔ b ≤ a := by
  have ea : (BitVec.ofNat 32 a).toInt = a := by rw [BitVec.toInt_ofNat', Int.bmod_eq_of_le] <;> omega
  have eb : (BitVec.ofNat 32 b).toInt = b := by rw [BitVec.toInt_ofNat', Int.bmod_eq_of_le] <;> omega
  simp only [IntOp.cmpi, BitVec.sle_eq_decide, ea, eb, Nat.cast_le]
  by_cases c : b ≤ a <;> simp [c]

/-- The causal mask compares the row numbers as words. -/
theorem later (s b : Fin 2048) :
    (Scalar.select (IntOp.cmpi CmpIPredicate.sge (IntOp.addi (BitVec.ofNat 32 s.val) 0#32) (BitVec.ofNat 32 b.val)) 0#1 1#1 : BitVec 1)
      = if b ≤ s then 0#1 else 1#1 := by
  have hs := s.isLt
  have hb := b.isLt
  have e : (IntOp.cmpi CmpIPredicate.sge (IntOp.addi (BitVec.ofNat 32 s.val) 0#32) (BitVec.ofNat 32 b.val) = 1#1) ↔ b ≤ s := by
    rw [show IntOp.addi (BitVec.ofNat 32 s.val) 0#32 = BitVec.ofNat 32 s.val from BitVec.add_zero _]
    exact notLess s.val b.val (by omega) (by omega)
  exact if_congr e rfl rfl

/-- The reference's scaled and masked scores, where the attention mask is zero. -/
theorem masked_apply (zero_mask : ∀ s b : Fin 2048, x3 (ix4 0 0 s b) = (0 : EReal)) (h : Fin 32) (s b : Fin 2048) :
    val_main_v45 (F := Ideal) x0 x1 x2 x3 x4 x5 (ix4 0 h s b) = logit x0 x1 x2 x4 x5 h s b := by
  pointwise [val_main_v45, val_main_v44, val_main_v43, val_main_v42, val_main_v41, val_main_v40, val_main_v39, val_main_v38, val_main_v37, val_main_cst, val_main_c, val_main_cst_0, val_main_call0_v0, val_main_call0_v1, val_main_call0_v2, val_main_call0_v3, val_main_call0_v4, val_main_call0_v5, val_main_call0_c, val_main_call0_c_0, val_main_call1_v0, val_main_call1_v1]
  rw [zero_mask, add_zero, later, scores_apply, negative_infinity, width]
  unfold logit
  by_cases c : b ≤ s
  · rw [if_pos c, if_pos c]; rfl
  · rw [if_neg c, if_neg c]; rfl

/-- The greatest entry of each row. -/
theorem rowMaximum (y : Vec Ideal S1x32x2048x2048 .f32) (h : Fin 32) (s : Fin 2048) :
    Host.reduce (FloatOps.maximumf (F := Ideal) (φ := .f32)) y (constant S_ .f32 0xFF800000#32) reducesTo_S1x32x2048x2048_S1x32x2048_d3 h_S_ (ix3 0 h s)
      = Finset.univ.sup fun b : Fin 2048 => (y (ix4 0 h s b) : EReal) := by
  pointwise []
  rw [negative_infinity]
  rfl

/-- The reference's reduction by maximum is the greatest masked score of each row. -/
theorem rowMaximum_apply (h : Fin 32) (s : Fin 2048) :
    val_main_v46 (F := Ideal) x0 x1 x2 x3 x4 x5 (ix3 0 h s)
      = Finset.univ.sup fun b : Fin 2048 => (val_main_v45 (F := Ideal) x0 x1 x2 x3 x4 x5 (ix4 0 h s b) : EReal) := by
  unfold val_main_v46
  exact rowMaximum _ h s

/-- The bound that the reference takes the maximum with is minus infinity. -/
theorem floor_apply (h : Fin 32) (s : Fin 2048) : val_main_v47 (F := Ideal) (ix3 0 h s) = (⊥ : EReal) := by
  pointwise [val_main_v47, val_main_cst_2]
  exact negative_infinity

/-- So the value that the reference subtracts is the greatest masked score of the row. -/
theorem maximum_apply (h : Fin 32) (s : Fin 2048) :
    val_main_v48 (F := Ideal) x0 x1 x2 x3 x4 x5 (ix3 0 h s)
      = Finset.univ.sup fun b : Fin 2048 => (val_main_v45 (F := Ideal) x0 x1 x2 x3 x4 x5 (ix4 0 h s b) : EReal) := by
  rw [← rowMaximum_apply]
  unfold val_main_v48
  rw [maximumf_apply, floor_apply]
  generalize val_main_v46 (F := Ideal) x0 x1 x2 x3 x4 x5 (ix3 0 h s) = M
  exact max_eq_right (bot_le (a := (M : EReal)))

/-- The reference's exponentials of the masked scores less their row's greatest. -/
theorem exponentials_apply (zero_mask : ∀ s b : Fin 2048, x3 (ix4 0 0 s b) = (0 : EReal)) (h : Fin 32) (s b : Fin 2048) :
    val_main_v52 (F := Ideal) x0 x1 x2 x3 x4 x5 (ix4 0 h s b)
      = Ideal.exp (logit x0 x1 x2 x4 x5 h s b - Finset.univ.sup (logit x0 x1 x2 x4 x5 h s)) := by
  pointwise [val_main_v52, val_main_v51, val_main_v50, val_main_v49]
  simp only [maximum_apply, masked_apply x0 x1 x2 x3 x4 x5 zero_mask]

/-- The reference's attention, for each head, token and lane. -/
theorem attended_apply (zero_mask : ∀ s b : Fin 2048, x3 (ix4 0 0 s b) = (0 : EReal)) (h : Fin 32) (s : Fin 2048) (a : Fin 128) :
    val_main_v57 (F := Ideal) x0 x1 x2 x3 x4 x5 x6 (ix4 0 h s a) = attended x0 x1 x2 x4 x5 x6 h s a := by
  pointwise [val_main_v57, val_main_v56, val_main_v55, val_main_v54, val_main_v53, val_main_cst_3]
  simp only [exponentials_apply x0 x1 x2 x3 x4 x5 zero_mask, sharedValues_apply]
  rfl

/-- The reference's result. -/
theorem result_apply (zero_mask : ∀ s b : Fin 2048, x3 (ix4 0 0 s b) = (0 : EReal)) (s : Fin 2048) (o : Fin 4096) :
    val_main_v61 (F := Ideal) x0 x1 x2 x3 x4 x5 x6 x7 (ix3 0 s o)
      = ∑ n : Fin 4096, attended x0 x1 x2 x4 x5 x6 (head n) s (lane n) * x7 (ix2 o n) := by
  pointwise [val_main_v61, val_main_v60, val_main_v59, val_main_v58]
  refine Finset.sum_congr rfl fun n _ => ?_
  exact congrArg (· * (x7 (ix2 o n) : EReal)) (attended_apply x0 x1 x2 x3 x4 x5 x6 zero_mask (head n) s (lane n))

end Cert.Proof.Ref

end
-- ==== Proof.HostValue.lean ====
/-
  The operations around the three calls, read at an index: what each call is given, and what is made of the last one's
  array.
-/
module

public import proofs.«01_k».proof.Proof.Run
public import proofs.«01_k».proof.Proof.QkvValue
public import proofs.«01_k».proof.Proof.FlashValue
public import proofs.«01_k».proof.Proof.ProjectValue
public import proofs.«01_k».proof.Proof.RefValue
public import Idealize.ShloMosaic.Lib.StableHlo.Run

@[expose] public section

noncomputable section

namespace Cert.Proof.Hosts

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD) (W : Valuation τ sig (Elt Ideal))

/-- The weights stacked. -/
def stacked (q : Vec Ideal S4096x4096 .f32) (k v : Vec Ideal S1024x4096 .f32) : Vec Ideal S6144x4096 .f32 :=
  concatenate S6144x4096 0 [⟨S4096x4096, q⟩, ⟨S1024x4096, k⟩, ⟨S1024x4096, v⟩] concatenates_S4096x4096_S1024x4096_S1024x4096_S6144x4096_d0

/-- The host code leaves the hidden states, as one matrix, for the first call. -/
theorem hidden_term : after hostOps0 W (Proc.devRef .tc main_v1)
    = (truncf .bf16 (shapeCast S2048x4096 (W (Proc.devRef .tc main_arg0) : Vec Ideal S1x2048x4096 .f32) shapeCasts_S1x2048x4096_S2048x4096 : FVec Ideal S2048x4096 .f32) bitsLt_bf16_f32 : FVec Ideal S2048x4096 .bf16) := by
  after_results <;> rfl

/-- The host code leaves the stacked weights for the first call. -/
theorem weights_term : after hostOps0 W (Proc.devRef .tc main_v3)
    = (truncf .bf16 (stacked (W (Proc.devRef .tc main_arg4)) (W (Proc.devRef .tc main_arg5)) (W (Proc.devRef .tc main_arg6)) : FVec Ideal S6144x4096 .f32) bitsLt_bf16_f32 : FVec Ideal S6144x4096 .bf16) := by
  after_results <;> rfl

/-- The host code leaves the cosines, as one matrix, for the first call. -/
theorem cosines_term : after hostOps0 W (Proc.devRef .tc main_v4)
    = (shapeCast S2048x128 (W (Proc.devRef .tc main_arg1) : Vec Ideal S1x2048x128 .f32) shapeCasts_S1x2048x128_S2048x128 : Vec Ideal S2048x128 .f32) := by
  after_results <;> rfl

/-- The host code leaves the sines, as one matrix, for the first call. -/
theorem sines_term : after hostOps0 W (Proc.devRef .tc main_v5)
    = (shapeCast S2048x128 (W (Proc.devRef .tc main_arg2) : Vec Ideal S1x2048x128 .f32) shapeCasts_S1x2048x128_S2048x128 : Vec Ideal S2048x128 .f32) := by
  after_results <;> rfl

/-- The host code leaves the output weights for the third call. -/
theorem output_term : after hostOps2 W (Proc.devRef .tc main_v16)
    = (truncf .bf16 (W (Proc.devRef .tc main_arg7) : FVec Ideal S4096x4096 .f32) bitsLt_bf16_f32 : FVec Ideal S4096x4096 .bf16) := by
  after_results <;> rfl

/-- The host code's result is the third call's array with an axis of one added. -/
theorem reshaped_term : after hostOps3 W (Proc.devRef .tc main_v18)
    = (shapeCast S1x2048x4096 (W (Proc.devRef .tc main_v17) : Vec Ideal S2048x4096 .f32) shapeCasts_S2048x4096_S1x2048x4096 : Vec Ideal S1x2048x4096 .f32) := by
  after_results <;> rfl

/-- The triangular mask. -/
def triangle : Vec Ideal S1x1024x1024 .f32 :=
  select (cmpi .sge (addi (iotaInDim S1x1024x1024 32 1)
      (muli (broadcastInDim S1x1024x1024 ![] bcast_S_S1x1024x1024 (constantI S_ 32 1024#32)) (iotaInDim S1x1024x1024 32 0)))
      (iotaInDim S1x1024x1024 32 2))
    (broadcastInDim S1x1024x1024 ![] bcast_S_S1x1024x1024 (constant (F := Ideal) S_ .f32 0x00000000#32))
    (broadcastInDim S1x1024x1024 ![] bcast_S_S1x1024x1024 (constant (F := Ideal) S_ .f32 0xFF800000#32))

/-- The host code leaves the triangular mask for the second call. -/
theorem triangle_term : after hostOps1_1 (after hostOps1 W) (Proc.devRef .tc main_v14) = triangle := by
  simp only [hostOps1_1, TRef.binary, TRef.nullary, TRef.ternary, TRef.unary, TRef.toBuf, TRef.ofBuf, cast_eq]
  after_results <;> rfl

/-- The stacked weights' rows: first the query weights', then the key weights', then the value weights'. -/
theorem stacked_apply (q : Vec Ideal S4096x4096 .f32) (k v : Vec Ideal S1024x4096 .f32) (n : Fin 6144) (i : Fin 4096) :
    stacked q k v (ix2 n i)
      = if h : n.val < 4096 then q (ix2 ⟨n.val, h⟩ i)
        else if h : n.val - 4096 < 1024 then k (ix2 ⟨n.val - 4096, h⟩ i) else v (ix2 ⟨n.val - 4096 - 1024, by omega⟩ i) := by
  pointwise [stacked]

/-- The triangular mask is zero for the keys up to the query's own place, and minus infinity for later ones. -/
theorem triangle_apply (r b : Fin 1024) : triangle (ix3 0 r b) = if b ≤ r then (0 : EReal) else ⊥ := by
  have hr := r.isLt
  have hb := b.isLt
  pointwise [triangle]
  rw [Ref.negative_infinity,
    show IntOp.addi (BitVec.ofNat 32 r.val) (IntOp.muli 1024#32 0#32) = BitVec.ofNat 32 r.val from BitVec.add_zero _]
  exact if_congr (Ref.notLess r.val b.val (by omega) (by omega)) rfl rfl

/-- The first call is given the hidden states. -/
theorem hidden_apply (s : Fin 2048) (k : Fin 4096) :
    (V1 m c (Proc.devRef .tc main_v1) : Vec Ideal S2048x4096 .bf16) (ix2 s k)
      = (m ((c.tc : Thread nD τ).loc main_arg0) : Vec Ideal S1x2048x4096 .f32) (ix3 0 s k) := by
  rw [V1, hidden_term]
  pointwise []

/-- The first call is given the stacked weights. -/
theorem weights_apply (n : Fin 6144) (k : Fin 4096) :
    (V1 m c (Proc.devRef .tc main_v3) : Vec Ideal S6144x4096 .bf16) (ix2 n k)
      = stacked (m ((c.tc : Thread nD τ).loc main_arg4)) (m ((c.tc : Thread nD τ).loc main_arg5)) (m ((c.tc : Thread nD τ).loc main_arg6)) (ix2 n k) := by
  rw [V1, weights_term]
  rfl

/-- The first call is given the cosines. -/
theorem cosines_apply (s : Fin 2048) (a : Fin 128) :
    (V1 m c (Proc.devRef .tc main_v4) : Vec Ideal S2048x128 .f32) (ix2 s a)
      = (m ((c.tc : Thread nD τ).loc main_arg1) : Vec Ideal S1x2048x128 .f32) (ix3 0 s a) := by
  rw [V1, cosines_term]
  pointwise []

/-- The first call is given the sines. -/
theorem sines_apply (s : Fin 2048) (a : Fin 128) :
    (V1 m c (Proc.devRef .tc main_v5) : Vec Ideal S2048x128 .f32) (ix2 s a)
      = (m ((c.tc : Thread nD τ).loc main_arg2) : Vec Ideal S1x2048x128 .f32) (ix3 0 s a) := by
  rw [V1, sines_term]
  pointwise []

/-- The second call is given the first one's array. -/
theorem attention_operand : V4 m (Whole.outs1 m) c (Proc.devRef .tc main_v6) = Whole.projected m c := by
  rw [V4_of m _ c main_v6 (by decide), V3_of m _ c main_v6 (by decide), V2, Function.update_self, Whole.outs1_v6]

/-- The second call is given the triangular mask. -/
theorem attention_mask (r b : Fin 1024) :
    (V4 m (Whole.outs1 m) c (Proc.devRef .tc main_v14) : Vec Ideal S1x1024x1024 .f32) (ix3 0 r b) = if b ≤ r then (0 : EReal) else ⊥ := by
  rw [V4, V3, triangle_term, triangle_apply]

/-- The third call is given the second one's array. -/
theorem output_operand : V6 m (Whole.outs2 m) c (Proc.devRef .tc main_v15) = Whole.attended m c := by
  rw [V6_of m _ c main_v15 (by decide), V5, Function.update_self, Whole.outs2_v15]

/-- The third call is given the output weights. -/
theorem output_weights (o n : Fin 4096) :
    (V6 m (Whole.outs2 m) c (Proc.devRef .tc main_v16) : Vec Ideal S4096x4096 .bf16) (ix2 o n)
      = (m ((c.tc : Thread nD τ).loc main_arg7) : Vec Ideal S4096x4096 .f32) (ix2 o n) := by
  rw [V6, output_term, V5_of m _ c main_arg7 (by decide), V4_of m _ c main_arg7 (by decide), V3_of m _ c main_arg7 (by decide),
    V2_of m _ c main_arg7 (by decide), V1_of m c main_arg7 (by decide)]
  rfl

/-- The result is the third call's array. -/
theorem value_apply (s : Fin 2048) (o : Fin 4096) :
    (Whole.value m c : Vec Ideal S1x2048x4096 .f32) (ix3 0 s o) = (Whole.result m c : Vec Ideal S2048x4096 .f32) (ix2 s o) := by
  rw [Whole.value, V8, reshaped_term, V7, Function.update_self, Whole.outs_v17]
  pointwise []

end Cert.Proof.Hosts

end
-- ==== Proof.Softmax.lean ====
/-
  A weighted average divided once by its weights' total is the softmax's average: weights exp t and weights exp (t - M),
  each divided by their own total, agree.
-/
module

public import proofs.«01_k».proof.Proof.RefValue

@[expose] public section

noncomputable section

namespace Cert.Proof.Softmax

open Idealize.ShloMosaic

/-- A real factor that is not negative goes through a sum of any values. -/
theorem sum_mul {n : ℕ} (f : Fin n → EReal) (c : ℝ) (hc : 0 ≤ c) (u : Finset (Fin n)) :
    (∑ b ∈ u, f b) * (c : EReal) = ∑ b ∈ u, f b * (c : EReal) := by
  classical
  induction u using Finset.induction_on with
  | empty => simp
  | insert a u ha ih =>
    rw [Finset.sum_insert ha, Finset.sum_insert ha,
      EReal.right_distrib_of_nonneg_of_ne_top (by exact_mod_cast hc) (EReal.coe_ne_top c), ih]

/-- A sum of reals is real. -/
theorem coe_sum {n : ℕ} (f : Fin n → ℝ) : (∑ b, (f b : EReal)) = ((∑ b, f b : ℝ) : EReal) :=
  (map_sum (⟨⟨Real.toEReal, EReal.coe_zero⟩, EReal.coe_add⟩ : ℝ →+ EReal) f Finset.univ).symm

/-- The greatest of arguments that are real where `p` holds and minus infinity elsewhere is real, when `p` holds somewhere. -/
theorem sup_real {n : ℕ} (p : Fin n → Prop) [DecidablePred p] (t : Fin n → ℝ) (i : Fin n) (hi : p i) (z : Fin n → EReal)
    (hz : ∀ b, z b = if p b then (t b : EReal) else ⊥) : ∃ M : ℝ, Finset.univ.sup z = (M : EReal) := by
  obtain ⟨b, -, hb⟩ := Finset.exists_mem_eq_sup Finset.univ ⟨i, Finset.mem_univ i⟩ z
  refine ⟨t b, ?_⟩
  rw [hb, hz b]
  by_cases c : p b
  · rw [if_pos c]
  · exfalso
    have l : z i ≤ Finset.univ.sup z := Finset.le_sup (Finset.mem_univ i)
    rw [hb, hz b, if_neg c, hz i, if_pos hi] at l
    exact EReal.coe_ne_bot _ (le_bot_iff.mp l)

/-- The softmax's average of any values, computed with weights `exp t` and one division. -/
theorem average {n : ℕ} (p : Fin n → Prop) [DecidablePred p] (t : Fin n → ℝ) (i : Fin n) (hi : p i) (z v w : Fin n → EReal)
    (hz : ∀ b, z b = if p b then (t b : EReal) else ⊥)
    (hw : ∀ b, w b = if p b then ((Real.exp (t b) : ℝ) : EReal) else 0) :
    Ideal.div (∑ b, w b * v b) (∑ b, w b) = Ref.softmaxAverage z v := by
  obtain ⟨M, hM⟩ := sup_real p t i hi z hz
  set r : Fin n → ℝ := fun b => if p b then Real.exp (t b) else 0 with hr
  have hwr : ∀ b, w b = (r b : EReal) := fun b => by
    rw [hw b, hr]
    by_cases c : p b
    · simp only [if_pos c]
    · simp only [if_neg c, EReal.coe_zero]
  have nonneg : ∀ b, 0 ≤ r b := fun b => by
    rw [hr]
    by_cases c : p b
    · simp only [if_pos c]; exact (Real.exp_pos _).le
    · simp only [if_neg c]; exact le_rfl
  have total : 0 < ∑ b, r b :=
    Finset.sum_pos' (fun b _ => nonneg b) ⟨i, Finset.mem_univ i, by rw [hr]; simp only [if_pos hi]; exact Real.exp_pos _⟩
  have shifted : ∀ b, Ideal.exp (z b - (M : EReal)) = ((r b * Real.exp (-M) : ℝ) : EReal) := fun b => by
    rw [hz b, hr]
    by_cases c : p b
    · simp only [if_pos c]
      rw [← EReal.coe_sub, Ideal.exp_coe, sub_eq_add_neg, Real.exp_add]
    · simp only [if_neg c]
      rw [EReal.bot_sub, Ideal.exp_bot, zero_mul, EReal.coe_zero]
  have e : 0 < Real.exp (-M) := Real.exp_pos _
  unfold Ref.softmaxAverage
  rw [hM]
  simp only [shifted, hwr]
  rw [coe_sum, coe_sum, Ideal.div_coe total.ne', ← Finset.sum_mul, sum_mul _ _ (by positivity)]
  refine Finset.sum_congr rfl fun b _ => ?_
  rw [Ideal.div_coe (mul_pos total e).ne', ← EReal.coe_mul,
    mul_comm (r b : EReal) (v b), mul_assoc, ← EReal.coe_mul, mul_comm (v b)]
  congr 2
  field_simp

end Cert.Proof.Softmax

end
-- ==== Proof.Equation.lean ====
/-
  The kernel's formula and the reference's are equal: the arrays the calls leave, read with the operands they are given,
  are the reference's projections, attention and output projection.
-/
module

public import proofs.«01_k».proof.Proof.HostValue
public import proofs.«01_k».proof.Proof.Softmax

@[expose] public section

noncomputable section

namespace Cert.Proof.Equation

open Cert.KernelIdeal Cert.KernelIdeal.Gen
open Idealize.ShloMosaic Idealize.ShloMosaic.TcCoe

/-! ## Real values -/

/-- A value that is a real number. -/
def IsReal (e : EReal) : Prop := ∃ r : ℝ, e = (r : EReal)

/-- Sums of real values are real. -/
theorem IsReal.add {a b : EReal} : IsReal a → IsReal b → IsReal (a + b) := by
  rintro ⟨x, rfl⟩ ⟨y, rfl⟩
  exact ⟨x + y, (EReal.coe_add x y).symm⟩

/-- Products of real values are real. -/
theorem IsReal.mul {a b : EReal} : IsReal a → IsReal b → IsReal (a * b) := by
  rintro ⟨x, rfl⟩ ⟨y, rfl⟩
  exact ⟨x * y, (EReal.coe_mul x y).symm⟩

/-- The negative of a real value is real. -/
theorem IsReal.neg {a : EReal} : IsReal a → IsReal (-a) := by
  rintro ⟨x, rfl⟩
  exact ⟨-x, (EReal.coe_neg x).symm⟩

/-- Finite sums of real values are real. -/
theorem IsReal.sum {n : ℕ} {f : Fin n → EReal} (h : ∀ b, IsReal (f b)) : IsReal (∑ b, f b) := by
  choose r hr using h
  exact ⟨∑ b, r b, by rw [← Softmax.coe_sum]; exact Finset.sum_congr rfl fun b _ => hr b⟩

/-! ## The projections -/

section Projections

variable (x0 : Vec Ideal S1x2048x4096 .f32) (x1 x2 : Vec Ideal S1x2048x128 .f32)
  (x4 : Vec Ideal S4096x4096 .f32) (x5 x6 : Vec Ideal S1024x4096 .f32)

/-- The reference's rotated entries are real, when the hidden states, the weights, the cosines and the sines are. -/
theorem rotate_real (y : Fin 128 → EReal) (h1 : ∀ s a, IsReal (x1 (ix3 0 s a))) (h2 : ∀ s a, IsReal (x2 (ix3 0 s a)))
    (hy : ∀ a, IsReal (y a)) (s : Fin 2048) (a : Fin 128) : IsReal (Ref.rotate x1 x2 y s a) := by
  unfold Ref.rotate
  refine ((hy a).mul (h1 s a)).add (IsReal.mul ?_ (h2 s a))
  by_cases c : a.val < 64
  · rw [if_pos c]; exact (hy _).neg
  · rw [if_neg c]; exact hy _

/-- The reference's queries are real, when the hidden states and the query weights are. -/
theorem query_real (h0 : ∀ s k, IsReal (x0 (ix3 0 s k))) (h4 : ∀ n k, IsReal (x4 (ix2 n k))) (h : Fin 32) (s : Fin 2048)
    (a : Fin 128) : IsReal (Ref.query x0 x4 h s a) :=
  IsReal.sum fun k => (h0 s k).mul (h4 _ k)

/-- The reference's keys are real, when the hidden states and the key weights are. -/
theorem key_real (h0 : ∀ s k, IsReal (x0 (ix3 0 s k))) (h5 : ∀ n k, IsReal (x5 (ix2 n k))) (g : Fin 8) (s : Fin 2048)
    (a : Fin 128) : IsReal (Ref.key x0 x5 g s a) :=
  IsReal.sum fun k => (h0 s k).mul (h5 _ k)

variable (x : Vec Ideal S2048x4096 .bf16) (w : Vec Ideal S6144x4096 .bf16) (cs sn : Vec Ideal S2048x128 .f32)
  (hx : ∀ s k, x (ix2 s k) = x0 (ix3 0 s k)) (hw : ∀ n k, w (ix2 n k) = Hosts.stacked x4 x5 x6 (ix2 n k))
  (hc : ∀ s a, cs (ix2 s a) = x1 (ix3 0 s a)) (hs : ∀ s a, sn (ix2 s a) = x2 (ix3 0 s a))

include hx hw

/-- The product with the stacked weights holds, in a head's query columns, the reference's queries. -/
theorem linear_query (h : Fin 32) (s : Fin 2048) (a : Fin 128) :
    Qkv.linear x w s (Flash.queryCol h a) = Ref.query x0 x4 h s a := by
  refine Finset.sum_congr rfl fun k _ => ?_
  have l : (Flash.queryCol h a).val < 4096 := by show h.val * 128 + a.val < 4096; omega
  rw [hx, hw, Hosts.stacked_apply, dif_pos l]
  rfl

/-- It holds, in a group's key columns, the reference's keys. -/
theorem linear_key (h : Fin 32) (s : Fin 2048) (a : Fin 128) :
    Qkv.linear x w s (Flash.keyCol h a) = Ref.key x0 x5 (Ref.group h) s a := by
  refine Finset.sum_congr rfl fun k _ => ?_
  have l : ¬ (Flash.keyCol h a).val < 4096 := by show ¬ 4096 + h.val / 4 * 128 + a.val < 4096; omega
  have u : (Flash.keyCol h a).val - 4096 < 1024 := by show 4096 + h.val / 4 * 128 + a.val - 4096 < 1024; omega
  have e : (⟨(Flash.keyCol h a).val - 4096, u⟩ : Fin 1024) = Ref.groupCol (Ref.group h) a := Fin.ext (by
    show 4096 + h.val / 4 * 128 + a.val - 4096 = h.val / 4 * 128 + a.val
    omega)
  rw [hx, hw, Hosts.stacked_apply, dif_neg l, dif_pos u, e]

/-- It holds, in a group's value columns, the reference's values. -/
theorem linear_value (h : Fin 32) (s : Fin 2048) (a : Fin 128) :
    Qkv.linear x w s (Flash.valueCol h a) = Ref.key x0 x6 (Ref.group h) s a := by
  refine Finset.sum_congr rfl fun k _ => ?_
  have l : ¬ (Flash.valueCol h a).val < 4096 := by show ¬ 5120 + h.val / 4 * 128 + a.val < 4096; omega
  have u : ¬ (Flash.valueCol h a).val - 4096 < 1024 := by show ¬ 5120 + h.val / 4 * 128 + a.val - 4096 < 1024; omega
  have e : (⟨(Flash.valueCol h a).val - 4096 - 1024, by omega⟩ : Fin 1024) = Ref.groupCol (Ref.group h) a := Fin.ext (by
    show 5120 + h.val / 4 * 128 + a.val - 4096 - 1024 = h.val / 4 * 128 + a.val
    omega)
  rw [hx, hw, Hosts.stacked_apply, dif_neg l, dif_neg u, e]

include hc hs

/-- The rotation that the call applies to a head's query columns is the reference's rotary embedding of the queries. -/
theorem rotated_query (h : Fin 32) (s : Fin 2048) (a : Fin 128) :
    Qkv.rotated x w cs sn s (Flash.queryCol h a) = Ref.rotate x1 x2 (Ref.query x0 x4 h s) s a := by
  have e : Qkv.swap (Flash.queryCol h a) = Flash.queryCol h (Ref.across a) := Fin.ext (by
    show (h.val * 128 + a.val) / 128 * 128 + ((h.val * 128 + a.val) % 128 + 64) % 128 = h.val * 128 + (a.val + 64) % 128
    omega)
  have l : Qkv.lane (Flash.queryCol h a) = a := Fin.ext (by show (h.val * 128 + a.val) % 128 = a.val; omega)
  have n : (Flash.queryCol h a).val % 128 = a.val := congrArg Fin.val l
  unfold Qkv.rotated Ref.rotate
  simp only [e, l, n, hc, hs, linear_query x0 x4 x5 x6 x w hx hw, zero_sub]

/-- The rotation that the call applies to a group's key columns is the reference's rotary embedding of the keys. -/
theorem rotated_key (h : Fin 32) (s : Fin 2048) (a : Fin 128) :
    Qkv.rotated x w cs sn s (Flash.keyCol h a) = Ref.rotate x1 x2 (Ref.key x0 x5 (Ref.group h) s) s a := by
  have e : Qkv.swap (Flash.keyCol h a) = Flash.keyCol h (Ref.across a) := Fin.ext (by
    show (4096 + h.val / 4 * 128 + a.val) / 128 * 128 + ((4096 + h.val / 4 * 128 + a.val) % 128 + 64) % 128
      = 4096 + h.val / 4 * 128 + (a.val + 64) % 128
    omega)
  have l : Qkv.lane (Flash.keyCol h a) = a := Fin.ext (by show (4096 + h.val / 4 * 128 + a.val) % 128 = a.val; omega)
  have n : (Flash.keyCol h a).val % 128 = a.val := congrArg Fin.val l
  unfold Qkv.rotated Ref.rotate
  simp only [e, l, n, hc, hs, linear_key x0 x4 x5 x6 x w hx hw, zero_sub]

/-- The first call's array holds the reference's rotated queries, times the scale. -/
theorem heads_query (h : Fin 32) (s : Fin 2048) (a : Fin 128) :
    Qkv.heads x w cs sn (ix2 s (Flash.queryCol h a)) = Ref.rotate x1 x2 (Ref.query x0 x4 h s) s a * Qkv.queryScale := by
  have l : (Flash.queryCol h a).val < 4096 := by show h.val * 128 + a.val < 4096; omega
  show (if (Flash.queryCol h a).val < 5120 then Qkv.rotated x w cs sn s (Flash.queryCol h a)
    * (if (Flash.queryCol h a).val < 4096 then Qkv.queryScale else 1) else Qkv.linear x w s (Flash.queryCol h a)) = _
  rw [if_pos (by omega), if_pos l, rotated_query x0 x1 x2 x4 x5 x6 x w cs sn hx hw hc hs]

/-- It holds the reference's rotated keys, which no scale multiplies. -/
theorem heads_key (h : Fin 32) (s : Fin 2048) (a : Fin 128) :
    Qkv.heads x w cs sn (ix2 s (Flash.keyCol h a)) = Ref.rotate x1 x2 (Ref.key x0 x5 (Ref.group h) s) s a := by
  have l : ¬ (Flash.keyCol h a).val < 4096 := by show ¬ 4096 + h.val / 4 * 128 + a.val < 4096; omega
  have u : (Flash.keyCol h a).val < 5120 := by show 4096 + h.val / 4 * 128 + a.val < 5120; omega
  show (if (Flash.keyCol h a).val < 5120 then Qkv.rotated x w cs sn s (Flash.keyCol h a)
    * (if (Flash.keyCol h a).val < 4096 then Qkv.queryScale else 1) else Qkv.linear x w s (Flash.keyCol h a)) = _
  rw [if_pos u, if_neg l, mul_one, rotated_key x0 x1 x2 x4 x5 x6 x w cs sn hx hw hc hs]

omit hc hs in
/-- It holds the reference's values, which are neither rotated nor scaled. -/
theorem heads_value (h : Fin 32) (s : Fin 2048) (a : Fin 128) :
    Qkv.heads x w cs sn (ix2 s (Flash.valueCol h a)) = Ref.key x0 x6 (Ref.group h) s a := by
  have u : ¬ (Flash.valueCol h a).val < 5120 := by show ¬ 5120 + h.val / 4 * 128 + a.val < 5120; omega
  show (if (Flash.valueCol h a).val < 5120 then Qkv.rotated x w cs sn s (Flash.valueCol h a)
    * (if (Flash.valueCol h a).val < 4096 then Qkv.queryScale else 1) else Qkv.linear x w s (Flash.valueCol h a)) = _
  rw [if_neg u, linear_value x0 x4 x5 x6 x w hx hw]

end Projections

/-! ## The attention -/

/-- The weight of a key: two to the power of its score, and nothing for a later key. -/
def weight (A : Vec Ideal S2048x6144 .bf16) (h : Fin 32) (s b : Fin 2048) : EReal :=
  if b ≤ s then Ideal.exp2 (Flash.score A h s b) else 0

/-- With the triangular mask, the two forms of the attention's result are one: all keys, the later ones weighted by zero. -/
theorem attention_eq (A : Vec Ideal S2048x6144 .bf16) (tri : Vec Ideal S1x1024x1024 .f32)
    (htri : ∀ r b : Fin 1024, tri (ix3 0 r b) = if b ≤ r then (0 : EReal) else ⊥) (s : Fin 2048) (h : Fin 32) (d : Fin 128) :
    Flash.attention A tri s h d
      = Ideal.div (∑ b : Fin 2048, weight A h s b * A (ix2 b (Flash.valueCol h d))) (∑ b : Fin 2048, weight A h s b) := by
  have halves : ∀ f : Fin 2048 → EReal, ∑ b, f b = (∑ b, f (Flash.lower b)) + ∑ b, f (Flash.upper b) := fun f =>
    Fin.sum_univ_two_halves 1024 1024 rfl f
  have masked : ∀ (e : EReal) (r b : Fin 1024), Ideal.exp2 (e + tri (ix3 0 r b)) = if b ≤ r then Ideal.exp2 e else 0 := fun e r b => by
    rw [htri]
    by_cases c : b ≤ r
    · rw [if_pos c, if_pos c, add_zero]
    · rw [if_neg c, if_neg c, EReal.add_bot, Ideal.exp2_bot]
  unfold Flash.attention
  rw [halves, halves (weight A h s)]
  simp only [masked, add_zero]
  by_cases c : s.val < 1024
  · have hl : ∀ b, weight A h s (Flash.lower b) = if b ≤ Flash.place s then Ideal.exp2 (Flash.score A h s (Flash.lower b)) else 0 := fun b =>
      if_congr (by
        show b.val ≤ s.val ↔ b.val ≤ s.val % 1024
        rw [Nat.mod_eq_of_lt c]) rfl rfl
    have hu : ∀ b, weight A h s (Flash.upper b) = 0 := fun b =>
      if_neg (by show ¬ 1024 + b.val ≤ s.val; omega)
    rw [if_pos c]
    simp only [hl, hu, zero_mul, Finset.sum_const_zero, add_zero]
  · have hs := s.isLt
    have hl : ∀ b, weight A h s (Flash.lower b) = Ideal.exp2 (Flash.score A h s (Flash.lower b)) := fun b =>
      if_pos (by show b.val ≤ s.val; omega)
    have hu : ∀ b, weight A h s (Flash.upper b) = if b ≤ Flash.place s then Ideal.exp2 (Flash.score A h s (Flash.upper b)) else 0 := fun b =>
      if_congr (by show 1024 + b.val ≤ s.val ↔ b.val ≤ s.val % 1024; omega) rfl rfl
    rw [if_neg c]
    simp only [hl, hu]
    rw [add_comm, add_comm (∑ b, Ideal.exp2 _)]

/-- Two to the power of a scaled score is the exponential of the score over the root of the head's width. -/
theorem exp2_scaled (S : ℝ) :
    Ideal.exp2 ((S * ((Real.sqrt 128)⁻¹ * (Real.log 2)⁻¹) : ℝ) : EReal) = ((Real.exp (S / Real.sqrt 128) : ℝ) : EReal) := by
  rw [Ideal.exp2_coe]
  show ((2 ^ (S * ((Real.sqrt 128)⁻¹ * (Real.log 2)⁻¹)) : ℝ) : EReal) = _
  rw [Real.rpow_def_of_pos (by norm_num)]
  have l : Real.log 2 ≠ 0 := (Real.log_pos (by norm_num)).ne'
  congr 2
  field_simp

/-- The root of 128 over the extended reals is the real root. -/
theorem root : Ideal.sqrt ((128 : ℝ) : EReal) = ((Real.sqrt 128 : ℝ) : EReal) := by
  rw [Ideal.sqrt_coe, if_neg (by norm_num)]

/-- The attention's result, computed from an array that holds the reference's scaled queries, its keys and its values, is
    the reference's. -/
theorem attended_eq (x0 : Vec Ideal S1x2048x4096 .f32) (x1 x2 : Vec Ideal S1x2048x128 .f32)
    (x4 : Vec Ideal S4096x4096 .f32) (x5 x6 : Vec Ideal S1024x4096 .f32)
    (h0 : ∀ s k, IsReal (x0 (ix3 0 s k))) (h1 : ∀ s a, IsReal (x1 (ix3 0 s a))) (h2 : ∀ s a, IsReal (x2 (ix3 0 s a)))
    (h4 : ∀ n k, IsReal (x4 (ix2 n k))) (h5 : ∀ n k, IsReal (x5 (ix2 n k)))
    (A : Vec Ideal S2048x6144 .bf16) (tri : Vec Ideal S1x1024x1024 .f32)
    (htri : ∀ r b : Fin 1024, tri (ix3 0 r b) = if b ≤ r then (0 : EReal) else ⊥)
    (hq : ∀ h s a, A (ix2 s (Flash.queryCol h a)) = Ref.rotate x1 x2 (Ref.query x0 x4 h s) s a * Qkv.queryScale)
    (hk : ∀ h s a, A (ix2 s (Flash.keyCol h a)) = Ref.rotate x1 x2 (Ref.key x0 x5 (Ref.group h) s) s a)
    (hv : ∀ h s a, A (ix2 s (Flash.valueCol h a)) = Ref.key x0 x6 (Ref.group h) s a)
    (h : Fin 32) (s : Fin 2048) (d : Fin 128) :
    Flash.attention A tri s h d = Ref.attended x0 x1 x2 x4 x5 x6 h s d := by
  choose Q hQ using rotate_real x1 x2 (Ref.query x0 x4 h s) h1 h2 (query_real x0 x4 h0 h4 h s) s
  choose K hK using fun b => rotate_real x1 x2 (Ref.key x0 x5 (Ref.group h) b) h1 h2 (key_real x0 x5 h0 h5 (Ref.group h) b) b
  have kernel : ∀ b, Flash.score A h s b = (((∑ a, Q a * K b a) * ((Real.sqrt 128)⁻¹ * (Real.log 2)⁻¹) : ℝ) : EReal) := fun b => by
    unfold Flash.score
    rw [Finset.sum_mul, ← Softmax.coe_sum]
    refine Finset.sum_congr rfl fun a _ => ?_
    rw [hq, hk, hQ, hK, Qkv.queryScale, ← EReal.coe_mul, ← EReal.coe_mul]
    congr 1
    ring
  have reference : ∀ b, Ref.score x0 x1 x2 x4 x5 h s b = ((∑ a, Q a * K b a : ℝ) : EReal) := fun b => by
    unfold Ref.score
    rw [← Softmax.coe_sum]
    refine Finset.sum_congr rfl fun a _ => ?_
    rw [hQ, hK, ← EReal.coe_mul]
  rw [attention_eq A tri htri]
  simp only [hv]
  refine Softmax.average (fun b => b ≤ s) (fun b => (∑ a, Q a * K b a) / Real.sqrt 128) s le_rfl _ _ _ (fun b => ?_) fun b => ?_
  · unfold Ref.logit
    rw [reference, root, Ideal.div_coe (by positivity), ← EReal.coe_mul, mul_one_div]
  · unfold weight
    rw [kernel, exp2_scaled]

/-- The third call's array, read with its operands. -/
theorem product_eq (x : Vec Ideal S2048x4096 .bf16) (w : Vec Ideal S4096x4096 .bf16) (y : Fin 4096 → EReal)
    (w' : Vec Ideal S4096x4096 .f32) (s : Fin 2048) (o : Fin 4096)
    (hx : ∀ n, x (ix2 s n) = y n) (hw : ∀ n, w (ix2 o n) = w' (ix2 o n)) :
    Project.product x w (ix2 s o) = ∑ n, y n * (w' (ix2 o n) : EReal) := by
  refine Finset.sum_congr rfl fun n _ => ?_
  exact congrArg₂ (fun a b : EReal => a * b) (hx n) (hw n)

end Cert.Proof.Equation

end
-- ==== Proof.Precondition.lean ====
/-
  What the precondition says: the hidden states, the cosines, the sines and the weights of the queries and the keys are
  real numbers, and the attention mask is zero.
-/
module

public import proofs.«01_k».proof.Proof.Equation
public import proofs.«01_k».proof.Pre_zero_mask_finite_factors
public import Idealize.ShloMosaic.Lib.ReduceAll

@[expose] public section

noncomputable section

namespace Cert.Proof.Precondition

open Cert.Pre_zero_mask_finite_factors
open Idealize.ShloMosaic Idealize.ShloMosaic.TcCoe
open Equation (IsReal)

/-- The shapes' side conditions of the precondition's own program. -/
theorem facts : Cert.Pre_zero_mask_finite_factors.Facts := by
  constructor <;> decide

/-- A shape without axes has one index. -/
instance : Subsingleton S_.Idx := ⟨fun a b => funext fun i => i.elim0⟩

/-- A truth value's bit is one exactly when the value is true. -/
theorem isTrue (b : Bool) : BitVec.ofBool b = 1#1 ↔ b = true := by
  revert b
  decide

/-- The literal for infinity is infinity. -/
theorem infinity : Ideal.ofBits .f32 0x7F800000#32 = (⊤ : EReal) := by
  simp [Ideal.ofBits, Ideal.ieee, -EReal.coe_mul]

/-- A value whose magnitude is below infinity is real. -/
theorem real_of_abs_lt {e : EReal} (h : max e (-e) < ⊤) : IsReal e := by
  induction e with
  | bot => exact absurd h (by simp)
  | top => exact absurd h (by simp)
  | coe r => exact ⟨r, rfl⟩

/-- An entry that passes the test for finiteness is real. -/
theorem finite_entry {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : IsReal (x i) := by
  revert h
  pointwise []
  rw [infinity, isTrue, decide_eq_true_eq]
  exact real_of_abs_lt

/-- An entry that passes the test for zero is zero. -/
theorem zero_entry {s : Shape} (x : FVec Ideal s .f32) (hb : S_.BroadcastsInDim s (![] : Fin 0 → Fin s.rank)) (i : s.Idx)
    (h : cmpf .oeq x (broadcastInDim s ![] hb (constant S_ .f32 0x00000000#32)) i = 1#1) : x i = (0 : EReal) := by
  revert h
  pointwise []
  rw [isTrue, decide_eq_true_eq]
  exact id

/-- The precondition, entry by entry. -/
theorem entries [Cert.Pre_zero_mask_finite_factors.Facts]
    (x0 : FVec Ideal S1x2048x4096 .f32) (x1 x2 : FVec Ideal S1x2048x128 .f32) (x3 : FVec Ideal S1x1x2048x2048 .f32)
    (x4 : FVec Ideal S4096x4096 .f32) (x5 x6 : FVec Ideal S1024x4096 .f32) (x7 : FVec Ideal S4096x4096 .f32)
    (h : ∀ i, fn (F := Ideal) x0 x1 x2 x3 x4 x5 x6 x7 i = 1#1) :
    (∀ i, IsReal (x0 i)) ∧ (∀ i, IsReal (x1 i)) ∧ (∀ i, IsReal (x2 i)) ∧ (∀ i, x3 i = (0 : EReal))
      ∧ (∀ i, IsReal (x4 i)) ∧ ∀ i, IsReal (x5 i) := by
  have e := h fun i => i.elim0
  unfold fn fn_part1 at e
  simp only [andi_apply, IntOp.andi_eq_one] at e
  obtain ⟨⟨⟨⟨⟨e0, e1⟩, e2⟩, e4⟩, e5⟩, e3⟩ := e
  exact ⟨fun i => finite_entry x0 _ i (Host.reduce_andi_all _ _ _ _ _ e0 i), fun i => finite_entry x1 _ i (Host.reduce_andi_all _ _ _ _ _ e1 i),
    fun i => finite_entry x2 _ i (Host.reduce_andi_all _ _ _ _ _ e2 i), fun i => zero_entry x3 _ i (Host.reduce_andi_all _ _ _ _ _ e3 i),
    fun i => finite_entry x4 _ i (Host.reduce_andi_all _ _ _ _ _ e4 i), fun i => finite_entry x5 _ i (Host.reduce_andi_all _ _ _ _ _ e5 i)⟩

end Cert.Proof.Precondition

end
-- ==== Proof.Algebraic.lean ====
/-
  The kernel with its scale as a real number and the reference leave equal results.
-/
module

public import proofs.«01_k».proof.Defs
public import proofs.«01_k».proof.Proof.Precondition
public import proofs.«01_k».proof.Proof.Frames

@[expose] public section

noncomputable section

namespace Cert.Proof

open Cert.KernelIdeal Cert.KernelIdeal.Gen
open Idealize.ShloMosaic Idealize.ShloMosaic.TcCoe Idealize.SL.Sem
open Equation (IsReal)

section Value

variable (m : (ℓ : Loc nD τ sig) → Buf (Elt Ideal) ℓ) (c : Dev nD)

/-- The hidden states. -/
abbrev hidden : Vec Ideal S1x2048x4096 .f32 := m ((c.tc : Thread nD τ).loc main_arg0)
/-- The cosines of the rotary embedding. -/
abbrev cosines : Vec Ideal S1x2048x128 .f32 := m ((c.tc : Thread nD τ).loc main_arg1)
/-- The sines of the rotary embedding. -/
abbrev sines : Vec Ideal S1x2048x128 .f32 := m ((c.tc : Thread nD τ).loc main_arg2)
/-- The attention mask. -/
abbrev mask : Vec Ideal S1x1x2048x2048 .f32 := m ((c.tc : Thread nD τ).loc main_arg3)
/-- The query weights. -/
abbrev queryWeights : Vec Ideal S4096x4096 .f32 := m ((c.tc : Thread nD τ).loc main_arg4)
/-- The key weights. -/
abbrev keyWeights : Vec Ideal S1024x4096 .f32 := m ((c.tc : Thread nD τ).loc main_arg5)
/-- The value weights. -/
abbrev valueWeights : Vec Ideal S1024x4096 .f32 := m ((c.tc : Thread nD τ).loc main_arg6)
/-- The output weights. -/
abbrev outputWeights : Vec Ideal S4096x4096 .f32 := m ((c.tc : Thread nD τ).loc main_arg7)

/-- The second call's array, read: the reference's attention. -/
theorem attended_value (h0 : ∀ i, IsReal (hidden m c i)) (h1 : ∀ i, IsReal (cosines m c i)) (h2 : ∀ i, IsReal (sines m c i))
    (h4 : ∀ i, IsReal (queryWeights m c i)) (h5 : ∀ i, IsReal (keyWeights m c i)) (s : Fin 2048) (n : Fin 4096) :
    (Whole.attended m c : Vec Ideal S2048x4096 .bf16) (ix2 s n)
      = Ref.attended (hidden m c) (cosines m c) (sines m c) (queryWeights m c) (keyWeights m c) (valueWeights m c)
          (Ref.head n) s (Ref.lane n) := by
  have hx := Hosts.hidden_apply m c
  have hw := Hosts.weights_apply m c
  have hc := Hosts.cosines_apply m c
  have hs := Hosts.sines_apply m c
  have ht := Hosts.attention_mask m c
  have e : Whole.projected m c = Qkv.heads (V1 m c (Proc.devRef .tc main_v1)) (V1 m c (Proc.devRef .tc main_v3))
      (V1 m c (Proc.devRef .tc main_v4)) (V1 m c (Proc.devRef .tc main_v5)) := Qkv.array (V1 m) c
  rw [Whole.attended, Flash.array, Hosts.attention_operand, e]
  exact Equation.attended_eq (hidden m c) (cosines m c) (sines m c) (queryWeights m c) (keyWeights m c) (valueWeights m c)
    (fun s k => h0 _) (fun s a => h1 _) (fun s a => h2 _) (fun n k => h4 _) (fun n k => h5 _) _ _ ht
    (Equation.heads_query _ _ _ _ _ _ _ _ _ _ hx hw hc hs) (Equation.heads_key _ _ _ _ _ _ _ _ _ _ hx hw hc hs)
    (Equation.heads_value _ _ _ _ _ _ _ _ hx hw) _ s _

/-- The kernel's result, read: the reference's. -/
theorem result_value (h0 : ∀ i, IsReal (hidden m c i)) (h1 : ∀ i, IsReal (cosines m c i)) (h2 : ∀ i, IsReal (sines m c i))
    (h3 : ∀ i, mask m c i = (0 : EReal))
    (h4 : ∀ i, IsReal (queryWeights m c i)) (h5 : ∀ i, IsReal (keyWeights m c i)) :
    Whole.value m c = Cert.ReferenceIdeal.Read.val_main_v61 (F := Ideal) (hidden m c) (cosines m c) (sines m c) (mask m c)
      (queryWeights m c) (keyWeights m c) (valueWeights m c) (outputWeights m c) := by
  refine funext fun (i : S1x2048x4096.Idx) => ?_
  obtain ⟨z, s, o, rfl⟩ : ∃ (z : Fin 1) (s : Fin 2048) (o : Fin 4096), i = ix3 z s o := ⟨_, _, _, eq_ix3 i⟩
  obtain rfl : z = 0 := Subsingleton.elim _ _
  refine (Hosts.value_apply m c s o).trans (Eq.trans ?_ (Ref.result_apply _ _ _ _ _ _ _ _ (fun s b => h3 _) s o).symm)
  have e : Whole.result m c = Project.product (V6 m (Whole.outs2 m) c (Proc.devRef .tc main_v15))
      (V6 m (Whole.outs2 m) c (Proc.devRef .tc main_v16)) := Project.array (V6 m (Whole.outs2 m)) c
  rw [e, Hosts.output_operand]
  exact Equation.product_eq _ _ _ _ s o (attended_value m c h0 h1 h2 h4 h5 s) (Hosts.output_weights m c o)

end Value

/-- The kernel with its scale a real number computes the reference, as extended reals. -/
theorem algebraic [Cert.Pre_zero_mask_finite_factors.Facts] :
    Cert.algebraic_KernelIdeal_ReferenceIdeal_pre_zero_mask_finite_factors := fun m g m' g' pre same => by
  refine ⟨fun c => Whole.value m c, ?_, ?_⟩
  · exact (θ_run (Cert.KernelIdeal.defs (F := Ideal)) _ _).mono (fun _ h c => h.1 c) (Whole.run_main (F := Ideal) m g)
  · refine (θ_run (Cert.ReferenceIdeal.defs (F := Ideal)) _ _).mono (fun r h c => ⟨(h c).1.trans ?_, (h c).2⟩)
      (Cert.ReferenceIdeal.Value.run (F := Ideal) m' g')
    obtain ⟨h0, h1, h2, h3, h4, h5⟩ := Precondition.entries _ _ _ _ _ _ _ _ (congrFun (pre c))
    obtain ⟨a0, a1, a2, a3, a4, a5, a6, a7⟩ := same c
    rw [Cert.ReferenceIdeal.Read.val_main_v61_eq, a0, a1, a2, a3, a4, a5, a6, a7]
    exact (result_value m c h0 h1 h2 h3 h4 h5).symm

end Cert.Proof

end
-- ==== Proof.lean ====
/-
  The proof of the five claims: the frames of the kernel, of the kernel with its scale a real number and of the reference,
  the scale constant's rule, and the equality of the last two's results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic
public import Idealize.ShloMosaic.Adequacy
public import Idealize.ShloMosaic.Init

@[expose] public section

noncomputable section

namespace Cert.Proof

/-- The claims of the theorem file: the three frames, which hold of all arguments and so of those that the
    precondition admits, the preservation of the kernel by its idealization, and the equality. -/
theorem claim : Cert.Claim :=
  ⟨Cert.Kernel.Gen.facts, Cert.KernelIdeal.Gen.facts, Cert.ReferenceIdeal.Gen.facts, Precondition.facts,
    frame_kernel, frame_ideal, fun m g _ => frame_ideal m g trivial, frame_reference,
    fun m g _ => frame_reference m g trivial, preserves, @algebraic Precondition.facts⟩

end Cert.Proof

end
